-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v13)) (v6 : (c : Dev Cert.KernelIdeal.nD) → Buf (Elt Ideal) ((c.tc : Thread Cert.KernelIdeal.nD Cert.KernelIdeal.τ).loc Cert.KernelIdeal.main_v14)) (v7 : (c : Dev Cert.KernelIdeal.nD) → Buf (Elt Ideal) ((c.tc : Thread Cert.KernelIdeal.nD Cert.KernelIdeal.τ).loc Cert.KernelIdeal.main_v15)) (v8 : (c : Dev Cert.KernelIdeal.nD) → Buf (Elt Ideal) ((c.tc : Thread Cert.KernelIdeal.nD Cert.KernelIdeal.τ).loc Cert.KernelIdeal.main_v16)) (v9 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_v14) = v6 c
          ∧ r.2.mem ((c.tc : Thread Cert.KernelIdeal.nD Cert.KernelIdeal.τ).loc Cert.KernelIdeal.main_v15) = v7 c
          ∧ r.2.mem ((c.tc : Thread Cert.KernelIdeal.nD Cert.KernelIdeal.τ).loc Cert.KernelIdeal.main_v16) = v8 c
          ∧ r.2.mem ((c.tc : Thread Cert.KernelIdeal.nD Cert.KernelIdeal.τ).loc Cert.KernelIdeal.main_v17) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v149_3) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_v164) = v6 c
          ∧ r.2.mem ((c.tc : Thread Cert.ReferenceIdeal.nD Cert.ReferenceIdeal.τ).loc Cert.ReferenceIdeal.main_v165) = v7 c
          ∧ r.2.mem ((c.tc : Thread Cert.ReferenceIdeal.nD Cert.ReferenceIdeal.τ).loc Cert.ReferenceIdeal.main_v166) = v8 c
          ∧ r.2.mem ((c.tc : Thread Cert.ReferenceIdeal.nD Cert.ReferenceIdeal.τ).loc Cert.ReferenceIdeal.main_v167) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x2880 : Shape := ⟨3, ![2, 1024, 2880]⟩
abbrev S2304x2880 : Shape := ⟨2, ![2304, 2880]⟩
abbrev S2x1024x2304 : Shape := ⟨3, ![2, 1024, 2304]⟩
abbrev S_ : Shape := ⟨0, ![]⟩

class Facts : Prop where
  bcast_S_S2x1024x2880 : S_.BroadcastsInDim S2x1024x2880 (![] : Fin 0 → Fin S2x1024x2880.rank)
  bcast_S_S2304x2880 : S_.BroadcastsInDim S2304x2880 (![] : Fin 0 → Fin S2304x2880.rank)
  bcast_S_S2x1024x2304 : S_.BroadcastsInDim S2x1024x2304 (![] : Fin 0 → Fin S2x1024x2304.rank)

variable [Facts]

def fn {F : FTy → Type} [FloatOps F] (main_arg0 : FVec F S2x1024x2880 .bf16) (main_arg1 : FVec F S2304x2880 .bf16) (main_arg2 : FVec F S2x1024x2304 .bf16) : IVec S2x1024x2880 1 × IVec S2304x2880 1 × IVec S2x1024x2304 1 :=
  let main_v0 : FVec F S2x1024x2880 .bf16 := Host.absf main_arg0
  let main_cst : FVec F S_ .bf16 := constant S_ .bf16 0x7F7F#16
  let main_v1 : FVec F S2x1024x2880 .bf16 := broadcastInDim S2x1024x2880 ![] bcast_S_S2x1024x2880 main_cst
  let main_v2 : IVec S2x1024x2880 1 := cmpf .ole main_v0 main_v1
  let main_v3 : FVec F S2304x2880 .bf16 := Host.absf main_arg1
  let main_cst_0 : FVec F S_ .bf16 := constant S_ .bf16 0x7F7F#16
  let main_v4 : FVec F S2304x2880 .bf16 := broadcastInDim S2304x2880 ![] bcast_S_S2304x2880 main_cst_0
  let main_v5 : IVec S2304x2880 1 := cmpf .ole main_v3 main_v4
  let main_v6 : FVec F S2x1024x2304 .bf16 := Host.absf main_arg2
  let main_cst_1 : FVec F S_ .bf16 := constant S_ .bf16 0x7F7F#16
  let main_v7 : FVec F S2x1024x2304 .bf16 := broadcastInDim S2x1024x2304 ![] bcast_S_S2x1024x2304 main_cst_1
  let main_v8 : IVec S2x1024x2304 1 := cmpf .ole main_v6 main_v7
  (main_v2, main_v5, main_v8)
-- ==== Kernel.lean ====
abbrev S2x1024x2880 : Shape := ⟨3, ![2, 1024, 2880]⟩
abbrev S2304x2880 : Shape := ⟨2, ![2304, 2880]⟩
abbrev S2x1024x2304 : Shape := ⟨3, ![2, 1024, 2304]⟩
abbrev S256x256 : Shape := ⟨2, ![256, 256]⟩
abbrev S2x2880x1024 : Shape := ⟨3, ![2, 2880, 1024]⟩
abbrev S2880x2304 : Shape := ⟨2, ![2880, 2304]⟩
abbrev S2048x2304 : Shape := ⟨2, ![2048, 2304]⟩
abbrev S2048x1 : Shape := ⟨2, ![2048, 1]⟩
abbrev S256x2304 : Shape := ⟨2, ![256, 2304]⟩
abbrev S256x1 : Shape := ⟨2, ![256, 1]⟩
abbrev S256x128 : Shape := ⟨2, ![256, 128]⟩
abbrev S256 : Shape := ⟨1, ![256]⟩
abbrev S1x2048 : Shape := ⟨2, ![1, 2048]⟩
abbrev S2880x1 : Shape := ⟨2, ![2880, 1]⟩
abbrev S480x2304 : Shape := ⟨2, ![480, 2304]⟩
abbrev S2x480x1024 : Shape := ⟨3, ![2, 480, 1024]⟩
abbrev S480x1 : Shape := ⟨2, ![480, 1]⟩
abbrev S96x2304 : Shape := ⟨2, ![96, 2304]⟩
abbrev S96x256 : Shape := ⟨2, ![96, 256]⟩
abbrev S96x128 : Shape := ⟨2, ![96, 128]⟩
abbrev S96 : Shape := ⟨1, ![96]⟩
abbrev S96x1 : Shape := ⟨2, ![96, 1]⟩
abbrev S480x256 : Shape := ⟨2, ![480, 256]⟩
abbrev S1x256 : Shape := ⟨2, ![1, 256]⟩
abbrev S1x480x256 : Shape := ⟨3, ![1, 480, 256]⟩
abbrev S1x2304 : Shape := ⟨2, ![1, 2304]⟩
abbrev S2048x256 : Shape := ⟨2, ![2048, 256]⟩
abbrev S96x2048 : Shape := ⟨2, ![96, 2048]⟩
abbrev S1x96x256 : Shape := ⟨3, ![1, 96, 256]⟩
abbrev S1x480x1024 : Shape := ⟨3, ![1, 480, 1024]⟩
abbrev S480x1024 : Shape := ⟨2, ![480, 1024]⟩
abbrev S480x2048 : Shape := ⟨2, ![480, 2048]⟩
abbrev S2x1024 : Shape := ⟨2, ![2, 1024]⟩
abbrev S2880 : Shape := ⟨1, ![2880]⟩
abbrev S2304 : Shape := ⟨1, ![2304]⟩

abbrev nBuf : Space → Nat
  | .hbm => 29
  | .vmem => 40
  | .smem => 0
  | _ => 0

abbrev bufTy : (tb : Table) → Fin (tcTables nBuf tb) → BufTy
  | .hbm, ⟨0, _⟩ => ⟨S2x1024x2880, .bf16⟩
  | .hbm, ⟨1, _⟩ => ⟨S2304x2880, .bf16⟩
  | .hbm, ⟨2, _⟩ => ⟨S2x1024x2304, .bf16⟩
  | .hbm, ⟨3, _⟩ => ⟨S256x256, .bf16⟩
  | .hbm, ⟨4, _⟩ => ⟨S256x256, .bf16⟩
  | .hbm, ⟨5, _⟩ => ⟨S2x2880x1024, .bf16⟩
  | .hbm, ⟨6, _⟩ => ⟨S2880x2304, .bf16⟩
  | .hbm, ⟨7, _⟩ => ⟨S2048x2304, .bf16⟩
  | .hbm, ⟨8, _⟩ => ⟨S2048x2304, .fp8e4m3⟩
  | .hbm, ⟨9, _⟩ => ⟨S2048x1, .f32⟩
  | .hbm, ⟨10, _⟩ => ⟨S1x2048, .f32⟩
  | .hbm, ⟨11, _⟩ => ⟨S2x2880x1024, .bf16⟩
  | .hbm, ⟨12, _⟩ => ⟨S2880x2304, .fp8e4m3⟩
  | .hbm, ⟨13, _⟩ => ⟨S2880x1, .f32⟩
  | .hbm, ⟨14, _⟩ => ⟨S2048x2304, .fp8e4m3⟩
  | .hbm, ⟨15, _⟩ => ⟨S1x2304, .f32⟩
  | .hbm, ⟨16, _⟩ => ⟨S2880x2304, .f32⟩
  | .hbm, ⟨17, _⟩ => ⟨S2x2880x1024, .fp8e4m3⟩
  | .hbm, ⟨18, _⟩ => ⟨S2880x1, .f32⟩
  | .hbm, ⟨19, _⟩ => ⟨S2x1024x2880, .bf16⟩
  | .hbm, ⟨20, _⟩ => ⟨S2304x2880, .f32⟩
  | .hbm, ⟨21, _⟩ => ⟨S2x1024x2304, .fp8e4m3⟩
  | .hbm, ⟨22, _⟩ => ⟨S2x1024, .f32⟩
  | .hbm, ⟨23, _⟩ => ⟨S2304x2880, .fp8e4m3⟩
  | .hbm, ⟨24, _⟩ => ⟨S2880, .f32⟩
  | .hbm, ⟨25, _⟩ => ⟨S2x1024x2304, .fp8e4m3⟩
  | .hbm, ⟨26, _⟩ => ⟨S2304, .f32⟩
  | .hbm, ⟨27, _⟩ => ⟨S2x1024x2880, .fp8e4m3⟩
  | .hbm, ⟨28, _⟩ => ⟨S2880, .f32⟩
  | .local _ .vmem, ⟨0, _⟩ => ⟨S256x2304, .bf16⟩
  | .local _ .vmem, ⟨1, _⟩ => ⟨S256x2304, .bf16⟩
  | .local _ .vmem, ⟨2, _⟩ => ⟨S256x256, .bf16⟩
  | .local _ .vmem, ⟨3, _⟩ => ⟨S256x2304, .fp8e4m3⟩
  | .local _ .vmem, ⟨4, _⟩ => ⟨S256x2304, .fp8e4m3⟩
  | .local _ .vmem, ⟨5, _⟩ => ⟨S256x1, .f32⟩
  | .local _ .vmem, ⟨6, _⟩ => ⟨S256x1, .f32⟩
  | .local _ .vmem, ⟨7, _⟩ => ⟨S256x2304, .f32⟩
  | .local _ .vmem, ⟨8, _⟩ => ⟨S480x2304, .bf16⟩
  | .local _ .vmem, ⟨9, _⟩ => ⟨S480x2304, .bf16⟩
  | .local _ .vmem, ⟨10, _⟩ => ⟨S2048x2304, .fp8e4m3⟩
  | .local _ .vmem, ⟨11, _⟩ => ⟨S1x2048, .f32⟩
  | .local _ .vmem, ⟨12, _⟩ => ⟨S256x256, .bf16⟩
  | .local _ .vmem, ⟨13, _⟩ => ⟨S2x480x1024, .bf16⟩
  | .local _ .vmem, ⟨14, _⟩ => ⟨S2x480x1024, .bf16⟩
  | .local _ .vmem, ⟨15, _⟩ => ⟨S480x2304, .fp8e4m3⟩
  | .local _ .vmem, ⟨16, _⟩ => ⟨S480x2304, .fp8e4m3⟩
  | .local _ .vmem, ⟨17, _⟩ => ⟨S480x1, .f32⟩
  | .local _ .vmem, ⟨18, _⟩ => ⟨S480x1, .f32⟩
  | .local _ .vmem, ⟨19, _⟩ => ⟨S96x2304, .f32⟩
  | .local _ .vmem, ⟨20, _⟩ => ⟨S2048x256, .bf16⟩
  | .local _ .vmem, ⟨21, _⟩ => ⟨S2048x256, .bf16⟩
  | .local _ .vmem, ⟨22, _⟩ => ⟨S256x256, .bf16⟩
  | .local _ .vmem, ⟨23, _⟩ => ⟨S2048x256, .fp8e4m3⟩
  | .local _ .vmem, ⟨24, _⟩ => ⟨S2048x256, .fp8e4m3⟩
  | .local _ .vmem, ⟨25, _⟩ => ⟨S1x256, .f32⟩
  | .local _ .vmem, ⟨26, _⟩ => ⟨S1x256, .f32⟩
  | .local _ .vmem, ⟨27, _⟩ => ⟨S2048x256, .f32⟩
  | .local _ .vmem, ⟨28, _⟩ => ⟨S2x480x1024, .bf16⟩
  | .local _ .vmem, ⟨29, _⟩ => ⟨S2x480x1024, .bf16⟩
  | .local _ .vmem, ⟨30, _⟩ => ⟨S2048x2304, .fp8e4m3⟩
  | .local _ .vmem, ⟨31, _⟩ => ⟨S1x2304, .f32⟩
  | .local _ .vmem, ⟨32, _⟩ => ⟨S256x256, .bf16⟩
  | .local _ .vmem, ⟨33, _⟩ => ⟨S480x2304, .f32⟩
  | .local _ .vmem, ⟨34, _⟩ => ⟨S480x2304, .f32⟩
  | .local _ .vmem, ⟨35, _⟩ => ⟨S2x480x1024, .fp8e4m3⟩
  | .local _ .vmem, ⟨36, _⟩ => ⟨S2x480x1024, .fp8e4m3⟩
  | .local _ .vmem, ⟨37, _⟩ => ⟨S480x1, .f32⟩
  | .local _ .vmem, ⟨38, _⟩ => ⟨S480x1, .f32⟩
  | .local _ .vmem, ⟨39, _⟩ => ⟨S96x2048, .f32⟩
  | _, _ => ⟨S2x1024x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6_0 : Ref sig .tc := ⟨.hbm, 14, rfl⟩
abbrev main_v6_1 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S480x2304 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2304 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x480x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S480x2304 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S480x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![9], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![6], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x480x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2304 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2304 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S480x2304 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2x480x1024 .fp8e4m3 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S480x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ReferenceIdeal.lean ====
abbrev S2x1024x2880 : Shape := ⟨3, ![2, 1024, 2880]⟩
abbrev S2304x2880 : Shape := ⟨2, ![2304, 2880]⟩
abbrev S2x1024x2304 : Shape := ⟨3, ![2, 1024, 2304]⟩
abbrev S256x256 : Shape := ⟨2, ![256, 256]⟩
abbrev S_ : Shape := ⟨0, ![]⟩
abbrev S128x128 : Shape := ⟨2, ![128, 128]⟩
abbrev S2x1024x9x256 : Shape := ⟨4, ![2, 1024, 9, 256]⟩
abbrev S9x256x2880 : Shape := ⟨3, ![9, 256, 2880]⟩
abbrev S256x9x2880 : Shape := ⟨3, ![256, 9, 2880]⟩
abbrev S2x8x128x2304 : Shape := ⟨4, ![2, 8, 128, 2304]⟩
abbrev S128x2x8x2304 : Shape := ⟨4, ![128, 2, 8, 2304]⟩
abbrev S2x8x128x2880 : Shape := ⟨4, ![2, 8, 128, 2880]⟩
abbrev S128x2x8x2880 : Shape := ⟨4, ![128, 2, 8, 2880]⟩
abbrev S2048x2304 : Shape := ⟨2, ![2048, 2304]⟩
abbrev S2048 : Shape := ⟨1, ![2048]⟩
abbrev S2048x1 : Shape := ⟨2, ![2048, 1]⟩
abbrev S253 : Shape := ⟨1, ![253]⟩
abbrev S1x253 : Shape := ⟨2, ![1, 253]⟩
abbrev S2048x253 : Shape := ⟨2, ![2048, 253]⟩
abbrev S2880 : Shape := ⟨1, ![2880]⟩
abbrev S1x2880 : Shape := ⟨2, ![1, 2880]⟩
abbrev S253x1 : Shape := ⟨2, ![253, 1]⟩
abbrev S253x2880 : Shape := ⟨2, ![253, 2880]⟩
abbrev S2304 : Shape := ⟨1, ![2304]⟩
abbrev S1x2304 : Shape := ⟨2, ![1, 2304]⟩
abbrev S253x2304 : Shape := ⟨2, ![253, 2304]⟩
abbrev S2048x2880 : Shape := ⟨2, ![2048, 2880]⟩
abbrev S2304x1 : Shape := ⟨2, ![2304, 1]⟩
abbrev S2x1024 : Shape := ⟨2, ![2, 1024]⟩

abbrev nBuf : Space → Nat
  | .hbm => 270
  | .vmem => 10
  | .smem => 0
  | _ => 0

abbrev hbmTy0_0 (i : Nat) : BufTy := match i % 128 with
  | 0 => ⟨S2x1024x2880, .bf16⟩
  | 1 => ⟨S2304x2880, .bf16⟩
  | 2 => ⟨S2x1024x2304, .bf16⟩
  | 3 => ⟨S256x256, .i32⟩
  | 4 => ⟨S256x256, .i32⟩
  | 5 => ⟨S256x256, .i32⟩
  | 6 => ⟨S256x256, .i32⟩
  | 7 => ⟨S_, .i32⟩
  | 8 => ⟨S256x256, .i32⟩
  | 9 => ⟨S256x256, .i32⟩
  | 10 => ⟨S_, .i32⟩
  | 11 => ⟨S256x256, .i32⟩
  | 12 => ⟨S256x256, .i32⟩
  | 13 => ⟨S_, .i32⟩
  | 14 => ⟨S256x256, .i32⟩
  | 15 => ⟨S256x256, .i32⟩
  | 16 => ⟨S256x256, .bf16⟩
  | 17 => ⟨S128x128, .i32⟩
  | 18 => ⟨S128x128, .i32⟩
  | 19 => ⟨S128x128, .i32⟩
  | 20 => ⟨S128x128, .i32⟩
  | 21 => ⟨S_, .i32⟩
  | 22 => ⟨S128x128, .i32⟩
  | 23 => ⟨S128x128, .i32⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i32⟩
  | 30 => ⟨S128x128, .bf16⟩
  | 31 => ⟨S2x1024x9x256, .bf16⟩
  | 32 => ⟨S2x1024x9x256, .f32⟩
  | 33 => ⟨S_, .f32⟩
  | 34 => ⟨S2x1024x9x256, .f32⟩
  | 35 => ⟨S2x1024x9x256, .f32⟩
  | 36 => ⟨S9x256x2880, .bf16⟩
  | 37 => ⟨S256x9x2880, .f32⟩
  | 38 => ⟨S9x256x2880, .f32⟩
  | 39 => ⟨S_, .f32⟩
  | 40 => ⟨S9x256x2880, .f32⟩
  | 41 => ⟨S9x256x2880, .f32⟩
  | 42 => ⟨S2x8x128x2304, .bf16⟩
  | 43 => ⟨S128x2x8x2304, .f32⟩
  | 44 => ⟨S2x8x128x2304, .f32⟩
  | 45 => ⟨S_, .f32⟩
  | 46 => ⟨S2x8x128x2304, .f32⟩
  | 47 => ⟨S2x8x128x2304, .f32⟩
  | 48 => ⟨S2x8x128x2880, .bf16⟩
  | 49 => ⟨S128x2x8x2880, .f32⟩
  | 50 => ⟨S2x8x128x2880, .f32⟩
  | 51 => ⟨S_, .f32⟩
  | 52 => ⟨S2x8x128x2880, .f32⟩
  | 53 => ⟨S2x8x128x2880, .f32⟩
  | 54 => ⟨S2048x2304, .f32⟩
  | 55 => ⟨S2048x2304, .f32⟩
  | 56 => ⟨S_, .f32⟩
  | 57 => ⟨S2048, .f32⟩
  | 58 => ⟨S2048x1, .f32⟩
  | 59 => ⟨S_, .f32⟩
  | 60 => ⟨S2048x1, .f32⟩
  | 61 => ⟨S2048x1, .f32⟩
  | 62 => ⟨S253, .i32⟩
  | 63 => ⟨S_, .i32⟩
  | 64 => ⟨S253, .i32⟩
  | 65 => ⟨S253, .i32⟩
  | 66 => ⟨S1x253, .i32⟩
  | 67 => ⟨S_, .f32⟩
  | 68 => ⟨S1x253, .f32⟩
  | 69 => ⟨S1x253, .f32⟩
  | 70 => ⟨S1x253, .f32⟩
  | 71 => ⟨S2048x253, .f32⟩
  | 72 => ⟨S2048x253, .f32⟩
  | 73 => ⟨S2048x253, .i1⟩
  | 74 => ⟨S_, .f32⟩
  | 75 => ⟨S_, .f32⟩
  | 76 => ⟨S2048x253, .f32⟩
  | 77 => ⟨S2048x253, .f32⟩
  | 78 => ⟨S2048x253, .f32⟩
  | 79 => ⟨S_, .f32⟩
  | 80 => ⟨S2048, .f32⟩
  | 81 => ⟨S2048x1, .f32⟩
  | 82 => ⟨S_, .f32⟩
  | 83 => ⟨S2048x1, .f32⟩
  | 84 => ⟨S2048x1, .i1⟩
  | 85 => ⟨S_, .f32⟩
  | 86 => ⟨S_, .f32⟩
  | 87 => ⟨S2048x1, .f32⟩
  | 88 => ⟨S2048x1, .f32⟩
  | 89 => ⟨S_, .f32⟩
  | 90 => ⟨S2048x1, .f32⟩
  | 91 => ⟨S2048x1, .f32⟩
  | 92 => ⟨S2048x2304, .f32⟩
  | 93 => ⟨S2048x2304, .f32⟩
  | 94 => ⟨S_, .f32⟩
  | 95 => ⟨S_, .f32⟩
  | 96 => ⟨S_, .f32⟩
  | 97 => ⟨S2048x2304, .f32⟩
  | 98 => ⟨S2048x2304, .f32⟩
  | 99 => ⟨S_, .f32⟩
  | 100 => ⟨S2048x2304, .f32⟩
  | 101 => ⟨S2048x2304, .f32⟩
  | 102 => ⟨S2304x2880, .f32⟩
  | 103 => ⟨S2304x2880, .f32⟩
  | 104 => ⟨S_, .f32⟩
  | 105 => ⟨S2880, .f32⟩
  | 106 => ⟨S1x2880, .f32⟩
  | 107 => ⟨S_, .f32⟩
  | 108 => ⟨S1x2880, .f32⟩
  | 109 => ⟨S1x2880, .f32⟩
  | 110 => ⟨S253, .i32⟩
  | 111 => ⟨S_, .i32⟩
  | 112 => ⟨S253, .i32⟩
  | 113 => ⟨S253, .i32⟩
  | 114 => ⟨S253x1, .i32⟩
  | 115 => ⟨S_, .f32⟩
  | 116 => ⟨S253x1, .f32⟩
  | 117 => ⟨S253x1, .f32⟩
  | 118 => ⟨S253x1, .f32⟩
  | 119 => ⟨S253x2880, .f32⟩
  | 120 => ⟨S253x2880, .f32⟩
  | 121 => ⟨S253x2880, .i1⟩
  | 122 => ⟨S_, .f32⟩
  | 123 => ⟨S_, .f32⟩
  | 124 => ⟨S253x2880, .f32⟩
  | 125 => ⟨S253x2880, .f32⟩
  | 126 => ⟨S253x2880, .f32⟩
  | 127 => ⟨S_, .f32⟩
  | _ => ⟨S2x1024x2880, .bf16⟩

abbrev hbmTy0_1 (i : Nat) : BufTy := match i % 128 with
  | 0 => ⟨S2880, .f32⟩
  | 1 => ⟨S1x2880, .f32⟩
  | 2 => ⟨S_, .f32⟩
  | 3 => ⟨S1x2880, .f32⟩
  | 4 => ⟨S1x2880, .i1⟩
  | 5 => ⟨S_, .f32⟩
  | 6 => ⟨S_, .f32⟩
  | 7 => ⟨S1x2880, .f32⟩
  | 8 => ⟨S1x2880, .f32⟩
  | 9 => ⟨S_, .f32⟩
  | 10 => ⟨S1x2880, .f32⟩
  | 11 => ⟨S1x2880, .f32⟩
  | 12 => ⟨S2304x2880, .f32⟩
  | 13 => ⟨S2304x2880, .f32⟩
  | 14 => ⟨S_, .f32⟩
  | 15 => ⟨S_, .f32⟩
  | 16 => ⟨S_, .f32⟩
  | 17 => ⟨S2304x2880, .f32⟩
  | 18 => ⟨S2304x2880, .f32⟩
  | 19 => ⟨S_, .f32⟩
  | 20 => ⟨S2304x2880, .f32⟩
  | 21 => ⟨S2304x2880, .f32⟩
  | 22 => ⟨S2048x2304, .f32⟩
  | 23 => ⟨S2048x2304, .f32⟩
  | 24 => ⟨S_, .f32⟩
  | 25 => ⟨S2304, .f32⟩
  | 26 => ⟨S1x2304, .f32⟩
  | 27 => ⟨S_, .f32⟩
  | 28 => ⟨S1x2304, .f32⟩
  | 29 => ⟨S1x2304, .f32⟩
  | 30 => ⟨S253, .i32⟩
  | 31 => ⟨S_, .i32⟩
  | 32 => ⟨S253, .i32⟩
  | 33 => ⟨S253, .i32⟩
  | 34 => ⟨S253x1, .i32⟩
  | 35 => ⟨S_, .f32⟩
  | 36 => ⟨S253x1, .f32⟩
  | 37 => ⟨S253x1, .f32⟩
  | 38 => ⟨S253x1, .f32⟩
  | 39 => ⟨S253x2304, .f32⟩
  | 40 => ⟨S253x2304, .f32⟩
  | 41 => ⟨S253x2304, .i1⟩
  | 42 => ⟨S_, .f32⟩
  | 43 => ⟨S_, .f32⟩
  | 44 => ⟨S253x2304, .f32⟩
  | 45 => ⟨S253x2304, .f32⟩
  | 46 => ⟨S253x2304, .f32⟩
  | 47 => ⟨S_, .f32⟩
  | 48 => ⟨S2304, .f32⟩
  | 49 => ⟨S1x2304, .f32⟩
  | 50 => ⟨S_, .f32⟩
  | 51 => ⟨S1x2304, .f32⟩
  | 52 => ⟨S1x2304, .i1⟩
  | 53 => ⟨S_, .f32⟩
  | 54 => ⟨S_, .f32⟩
  | 55 => ⟨S1x2304, .f32⟩
  | 56 => ⟨S1x2304, .f32⟩
  | 57 => ⟨S_, .f32⟩
  | 58 => ⟨S1x2304, .f32⟩
  | 59 => ⟨S1x2304, .f32⟩
  | 60 => ⟨S2048x2304, .f32⟩
  | 61 => ⟨S2048x2304, .f32⟩
  | 62 => ⟨S_, .f32⟩
  | 63 => ⟨S_, .f32⟩
  | 64 => ⟨S_, .f32⟩
  | 65 => ⟨S2048x2304, .f32⟩
  | 66 => ⟨S2048x2304, .f32⟩
  | 67 => ⟨S_, .f32⟩
  | 68 => ⟨S2048x2304, .f32⟩
  | 69 => ⟨S2048x2304, .f32⟩
  | 70 => ⟨S2048x2880, .f32⟩
  | 71 => ⟨S2048x2880, .f32⟩
  | 72 => ⟨S_, .f32⟩
  | 73 => ⟨S2880, .f32⟩
  | 74 => ⟨S1x2880, .f32⟩
  | 75 => ⟨S_, .f32⟩
  | 76 => ⟨S1x2880, .f32⟩
  | 77 => ⟨S1x2880, .f32⟩
  | 78 => ⟨S253, .i32⟩
  | 79 => ⟨S_, .i32⟩
  | 80 => ⟨S253, .i32⟩
  | 81 => ⟨S253, .i32⟩
  | 82 => ⟨S253x1, .i32⟩
  | 83 => ⟨S_, .f32⟩
  | 84 => ⟨S253x1, .f32⟩
  | 85 => ⟨S253x1, .f32⟩
  | 86 => ⟨S253x1, .f32⟩
  | 87 => ⟨S253x2880, .f32⟩
  | 88 => ⟨S253x2880, .f32⟩
  | 89 => ⟨S253x2880, .i1⟩
  | 90 => ⟨S_, .f32⟩
  | 91 => ⟨S_, .f32⟩
  | 92 => ⟨S253x2880, .f32⟩
  | 93 => ⟨S253x2880, .f32⟩
  | 94 => ⟨S253x2880, .f32⟩
  | 95 => ⟨S_, .f32⟩
  | 96 => ⟨S2880, .f32⟩
  | 97 => ⟨S1x2880, .f32⟩
  | 98 => ⟨S_, .f32⟩
  | 99 => ⟨S1x2880, .f32⟩
  | 100 => ⟨S1x2880, .i1⟩
  | 101 => ⟨S_, .f32⟩
  | 102 => ⟨S_, .f32⟩
  | 103 => ⟨S1x2880, .f32⟩
  | 104 => ⟨S1x2880, .f32⟩
  | 105 => ⟨S_, .f32⟩
  | 106 => ⟨S1x2880, .f32⟩
  | 107 => ⟨S1x2880, .f32⟩
  | 108 => ⟨S2048x2880, .f32⟩
  | 109 => ⟨S2048x2880, .f32⟩
  | 110 => ⟨S_, .f32⟩
  | 111 => ⟨S_, .f32⟩
  | 112 => ⟨S_, .f32⟩
  | 113 => ⟨S2048x2880, .f32⟩
  | 114 => ⟨S2048x2880, .f32⟩
  | 115 => ⟨S_, .f32⟩
  | 116 => ⟨S2048x2880, .f32⟩
  | 117 => ⟨S2048x2880, .f32⟩
  | 118 => ⟨S2048x2880, .f32⟩
  | 119 => ⟨S2304x2880, .f32⟩
  | 120 => ⟨S2048x2304, .fp8e4m3⟩
  | 121 => ⟨S2304x2880, .fp8e4m3⟩
  | 122 => ⟨S2048x2304, .fp8e4m3⟩
  | 123 => ⟨S2048x2880, .fp8e4m3⟩
  | 124 => ⟨S2048x2880, .f32⟩
  | 125 => ⟨S2048x2880, .f32⟩
  | 126 => ⟨S2048x2880, .f32⟩
  | 127 => ⟨S2048x2880, .f32⟩
  | _ => ⟨S2x1024x2880, .bf16⟩

abbrev hbmTy0_2 (i : Nat) : BufTy := match i % 128 with
  | 0 => ⟨S2048x2880, .bf16⟩
  | 1 => ⟨S2304x1, .f32⟩
  | 2 => ⟨S2304x2880, .f32⟩
  | 3 => ⟨S2304x2880, .f32⟩
  | 4 => ⟨S2304x2880, .f32⟩
  | 5 => ⟨S2304x2880, .f32⟩
  | 6 => ⟨S2x1024x2880, .bf16⟩
  | 7 => ⟨S2x1024x2304, .fp8e4m3⟩
  | 8 => ⟨S2x1024, .f32⟩
  | 9 => ⟨S2880, .f32⟩
  | 10 => ⟨S2x1024x2304, .fp8e4m3⟩
  | 11 => ⟨S2304, .f32⟩
  | 12 => ⟨S2x1024x2880, .fp8e4m3⟩
  | 13 => ⟨S2880, .f32⟩
  | _ => ⟨S2x1024x2880, .bf16⟩

abbrev hbmTy (i : Nat) : BufTy := match i / 128 with
  | 0 => hbmTy0_0 i
  | 1 => hbmTy0_1 i
  | 2 => hbmTy0_2 i
  | _ => ⟨S2x1024x2880, .bf16⟩

abbrev bufTy : (tb : Table) → Fin (tcTables nBuf tb) → BufTy
  | .hbm, ⟨i, _⟩ => hbmTy i
  | .local _ .vmem, ⟨0, _⟩ => ⟨S2048x2304, .f32⟩
  | .local _ .vmem, ⟨1, _⟩ => ⟨S2304x2880, .f32⟩
  | .local _ .vmem, ⟨2, _⟩ => ⟨S2048x2304, .f32⟩
  | .local _ .vmem, ⟨3, _⟩ => ⟨S2048x2880, .f32⟩
  | .local _ .vmem, ⟨4, _⟩ => ⟨S2048x2880, .f32⟩
  | .local _ .vmem, ⟨5, _⟩ => ⟨S2304x2880, .f32⟩
  | .local _ .vmem, ⟨6, _⟩ => ⟨S2048x2304, .fp8e4m3⟩
  | .local _ .vmem, ⟨7, _⟩ => ⟨S2304x2880, .fp8e4m3⟩
  | .local _ .vmem, ⟨8, _⟩ => ⟨S2048x2304, .fp8e4m3⟩
  | .local _ .vmem, ⟨9, _⟩ => ⟨S2048x2880, .fp8e4m3⟩
  | _, _ => ⟨S2x1024x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_call1_v0 : Ref sig .tc := ⟨.hbm, 86, rfl⟩
abbrev main_call1_v1 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_cst_18 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_19 : Ref sig .tc := ⟨.hbm, 104, rfl⟩
abbrev main_v70 : Ref sig .tc := ⟨.hbm, 105, rfl⟩
abbrev main_v71 : Ref sig .tc := ⟨.hbm, 106, rfl⟩
abbrev main_cst_20 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_21 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_22 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_23 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v84 : Ref sig .tc := ⟨.hbm, 126, rfl⟩
abbrev main_cst_24 : Ref sig .tc := ⟨.hbm, 127, rfl⟩
abbrev main_v85 : Ref sig .tc := ⟨.hbm, 128, rfl⟩
abbrev main_v86 : Ref sig .tc := ⟨.hbm, 129, rfl⟩
abbrev main_cst_25 : Ref sig .tc := ⟨.hbm, 130, rfl⟩
abbrev main_v87 : Ref sig .tc := ⟨.hbm, 131, rfl⟩
abbrev main_v88 : Ref sig .tc := ⟨.hbm, 132, rfl⟩
abbrev main_cst_26 : Ref sig .tc := ⟨.hbm, 133, rfl⟩
abbrev main_call4_v0 : Ref sig .tc := ⟨.hbm, 134, rfl⟩
abbrev main_call4_v1 : Ref sig .tc := ⟨.hbm, 135, rfl⟩
abbrev main_v89 : Ref sig .tc := ⟨.hbm, 136, rfl⟩
abbrev main_cst_27 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_28 : Ref sig .tc := ⟨.hbm, 142, rfl⟩
abbrev main_cst_29 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_30 : Ref sig .tc := ⟨.hbm, 152, rfl⟩
abbrev main_v97 : Ref sig .tc := ⟨.hbm, 153, rfl⟩
abbrev main_v98 : Ref sig .tc := ⟨.hbm, 154, rfl⟩
abbrev main_cst_31 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_c_32 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_33 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_34 : Ref sig .tc := ⟨.hbm, 170, rfl⟩
abbrev main_call6_v0 : Ref sig .tc := ⟨.hbm, 171, rfl⟩
abbrev main_call6_v1 : Ref sig .tc := ⟨.hbm, 172, rfl⟩
abbrev main_call6_v2 : Ref sig .tc := ⟨.hbm, 173, rfl⟩
abbrev main_v111 : Ref sig .tc := ⟨.hbm, 174, rfl⟩
abbrev main_cst_35 : Ref sig .tc := ⟨.hbm, 175, rfl⟩
abbrev main_v112 : Ref sig .tc := ⟨.hbm, 176, rfl⟩
abbrev main_v113 : Ref sig .tc := ⟨.hbm, 177, rfl⟩
abbrev main_cst_36 : Ref sig .tc := ⟨.hbm, 178, rfl⟩
abbrev main_v114 : Ref sig .tc := ⟨.hbm, 179, rfl⟩
abbrev main_v115 : Ref sig .tc := ⟨.hbm, 180, rfl⟩
abbrev main_cst_37 : Ref sig .tc := ⟨.hbm, 181, rfl⟩
abbrev main_call7_v0 : Ref sig .tc := ⟨.hbm, 182, rfl⟩
abbrev main_call7_v1 : Ref sig .tc := ⟨.hbm, 183, rfl⟩
abbrev main_v116 : Ref sig .tc := ⟨.hbm, 184, rfl⟩
abbrev main_cst_38 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_39 : Ref sig .tc := ⟨.hbm, 190, rfl⟩
abbrev main_cst_40 : Ref sig .tc := ⟨.hbm, 191, rfl⟩
abbrev main_call8_v0 : Ref sig .tc := ⟨.hbm, 192, rfl⟩
abbrev main_call8_v1 : Ref sig .tc := ⟨.hbm, 193, rfl⟩
abbrev main_call8_v2 : Ref sig .tc := ⟨.hbm, 194, rfl⟩
abbrev main_call8_v3 : Ref sig .tc := ⟨.hbm, 195, rfl⟩
abbrev main_call8_v4 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_41 : Ref sig .tc := ⟨.hbm, 200, rfl⟩
abbrev main_v124 : Ref sig .tc := ⟨.hbm, 201, rfl⟩
abbrev main_v125 : Ref sig .tc := ⟨.hbm, 202, rfl⟩
abbrev main_cst_42 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_c_43 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_cst_44 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_cst_45 : Ref sig .tc := ⟨.hbm, 218, rfl⟩
abbrev main_call9_v0 : Ref sig .tc := ⟨.hbm, 219, rfl⟩
abbrev main_call9_v1 : Ref sig .tc := ⟨.hbm, 220, rfl⟩
abbrev main_call9_v2 : Ref sig .tc := ⟨.hbm, 221, rfl⟩
abbrev main_v138 : Ref sig .tc := ⟨.hbm, 222, rfl⟩
abbrev main_cst_46 : Ref sig .tc := ⟨.hbm, 223, rfl⟩
abbrev main_v139 : Ref sig .tc := ⟨.hbm, 224, rfl⟩
abbrev main_v140 : Ref sig .tc := ⟨.hbm, 225, rfl⟩
abbrev main_cst_47 : Ref sig .tc := ⟨.hbm, 226, rfl⟩
abbrev main_v141 : Ref sig .tc := ⟨.hbm, 227, rfl⟩
abbrev main_v142 : Ref sig .tc := ⟨.hbm, 228, rfl⟩
abbrev main_cst_48 : Ref sig .tc := ⟨.hbm, 229, rfl⟩
abbrev main_call10_v0 : Ref sig .tc := ⟨.hbm, 230, rfl⟩
abbrev main_call10_v1 : Ref sig .tc := ⟨.hbm, 231, rfl⟩
abbrev main_v143 : Ref sig .tc := ⟨.hbm, 232, rfl⟩
abbrev main_cst_49 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_cst_50 : Ref sig .tc := ⟨.hbm, 238, rfl⟩
abbrev main_cst_51 : Ref sig .tc := ⟨.hbm, 239, rfl⟩
abbrev main_call11_v0 : Ref sig .tc := ⟨.hbm, 240, rfl⟩
abbrev main_call11_v1 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_v148 : Ref sig .tc := ⟨.hbm, 245, rfl⟩
abbrev main_v149_0 : Ref sig .tc := ⟨.hbm, 246, rfl⟩
abbrev main_v149_1 : Ref sig .tc := ⟨.hbm, 247, rfl⟩
abbrev main_v149_2 : Ref sig .tc := ⟨.hbm, 248, rfl⟩
abbrev main_v149_3 : Ref sig .tc := ⟨.hbm, 249, rfl⟩
abbrev main_v149_4 : Ref sig .tc := ⟨.hbm, 250, rfl⟩
abbrev main_v149_5 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x2880 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x2880 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2304 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x2880 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KRun.lean ====
/-
  The kernel's run: every unscoped buffer of every core ends with the contents the fold through @main gives it.
-/
module

public import proofs.«01_k».proof.Proof.Gen.KernelIdeal.Frame

@[expose] public section

set_option maxRecDepth 16384

noncomputable section

namespace Cert.KernelIdeal.Halo

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The run ends with every unscoped buffer at `W7`: the frame's launch over the segments, the last thread state read whole. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- One TensorCore buffer at the end of the run. -/
theorem run_at : θ_run defs (onTc (τ := τ) (main (F := F))) ⟨m, fun _ => 0, ρ⟩ (fun r =>
      ∀ c : Dev nD, ∀ b : Ref sig .tc, ¬ (Proc.devRef .tc b : DevRef τ sig).isScoped → r.2.mem ((c.tc : Thread nD τ).loc b) = W7 m ρ c (Proc.devRef .tc b)) :=
  (θ_run defs _ _).mono (fun _ h c b hb => h c _ (mem_uc b hb)) (run_all m ρ)

end Cert.KernelIdeal.Halo
-- ==== Proof.Quant.lean ====
/-
  The quantiser's scalar mathematics, over the extended reals.

  The kernel finds the exponent field of v (the row's amax over 448) by a binary search: starting from 0 it adds 128, 64, …, 1
  in turn, keeping an addition unless v is below the float whose exponent field is the sum. The scale and its inverse are then
  floats built from the field. The reference takes the least power of two above v (1 where v is below the least normal float)
  and divides. `scale_eq` and `inv_eq` say the two agree at every v with 0 ≤ v < 2^126.
-/
module

public import Idealize.ShloMosaic.Lib.Pointwise

@[expose] public section

noncomputable section

namespace Cert.Halo

open Idealize.ShloMosaic

/-- The float whose exponent field is `n` (and whose other bits are zero). -/
def pw (n : BitVec 32) : EReal := Ideal.ofBits .f32 (IntOp.shli .vector n 23#32)

/-- The same as a number, for the fields 0 … 255: zero, a power of two, infinity. -/
def thr (n : ℕ) : EReal := if n = 0 then 0 else if n ≤ 254 then (((2 : ℝ) ^ ((n : ℤ) - 127) : ℝ) : EReal) else ⊤

theorem pw_bits : ∀ n : Fin 256,
    ((IntOp.shli .vector (BitVec.ofNat 32 n.val) 23#32).extractLsb' 23 8).toNat = n.val ∧
    ((IntOp.shli .vector (BitVec.ofNat 32 n.val) 23#32).extractLsb' 0 23).toNat = 0 ∧
    ((IntOp.shli .vector (BitVec.ofNat 32 n.val) 23#32).extractLsb' 31 1 == 1#1) = false := by decide +kernel

theorem ieee_eq (b : BitVec 32) (n : ℕ) (h1 : (b.extractLsb' 23 8).toNat = n) (h2 : (b.extractLsb' 0 23).toNat = 0)
    (h3 : (b.extractLsb' 31 1 == 1#1) = false) (hn : n ≤ 255) : Ideal.ieee 8 23 b = thr n := by
  have e8 : (2 : ℕ) ^ 8 - 1 = 255 := by norm_num
  unfold Ideal.ieee thr
  simp only [e8, h1, h2, h3, Nat.reduceAdd]
  rcases Nat.eq_zero_or_pos n with h0 | h0
  · subst h0; simp
  · rcases Nat.lt_or_ge n 255 with h | h
    · rw [if_neg (Nat.ne_of_lt h), if_neg (Nat.pos_iff_ne_zero.mp h0), if_neg (Nat.pos_iff_ne_zero.mp h0), if_pos (Nat.le_of_lt_succ h)]
      congr 1
      have e : ((n : ℤ) - (2 ^ (8 - 1) - 1) - ((23 : ℕ) : ℤ)) = ((n : ℤ) - 127) - 23 := by norm_num
      rw [e, zpow_sub₀ (by norm_num : (2 : ℝ) ≠ 0)]
      norm_num
      exact mul_div_cancel₀ _ (by norm_num)
    · have : n = 255 := Nat.le_antisymm hn h
      subst this; simp

theorem pw_eq (n : ℕ) (hn : n ≤ 255) : pw (BitVec.ofNat 32 n) = thr n := by
  obtain ⟨h1, h2, h3⟩ := pw_bits ⟨n, Nat.lt_succ_of_le hn⟩
  exact ieee_eq _ n h1 h2 h3 hn

theorem thr_mono {m n : ℕ} (h : m ≤ n) : thr m ≤ thr n := by
  unfold thr
  by_cases hm : m = 0
  · subst hm
    rw [if_pos rfl]
    split_ifs
    · exact le_refl _
    · exact_mod_cast (by positivity : (0 : ℝ) ≤ _)
    · exact le_top
  · rw [if_neg hm, if_neg (by omega : n ≠ 0)]
    by_cases hn : n ≤ 254
    · rw [if_pos hn, if_pos (by omega)]
      exact_mod_cast zpow_le_zpow_right₀ (by norm_num : (1 : ℝ) ≤ 2) (Int.sub_le_sub_right (Int.ofNat_le.mpr h) 127)
    · rw [if_neg hn]; exact le_top

/-- One step of the search: `f + b` unless `v` is below its float. -/
def step (v : EReal) (b f : BitVec 32) : BitVec 32 :=
  Scalar.select (Ideal.cmp .olt v (pw (IntOp.addi f b))) f (IntOp.addi f b)

/-- The exponent field of `v` by the search. -/
def field (v : EReal) : BitVec 32 :=
  step v 1#32 (step v 2#32 (step v 4#32 (step v 8#32 (step v 16#32 (step v 32#32 (step v 64#32 (step v 128#32 0#32)))))))

/-- The scale's exponent: 0 for the field 0, else the field less 126. -/
def expo (f : BitVec 32) : BitVec 32 := Scalar.select (IntOp.cmpi .eq f 0#32) 0#32 (IntOp.subi f 126#32)

/-- The kernel's scale. -/
def scaleK (v : EReal) : EReal := pw (IntOp.addi (expo (field v)) 127#32)

/-- The kernel's inverse scale. -/
def invK (v : EReal) : EReal := pw (IntOp.subi 127#32 (expo (field v)))

/-- What the search keeps: the field so far is at most `v`'s, which is below the field so far plus `w`. -/
def Inv (v : EReal) (w : ℕ) (f : BitVec 32) : Prop :=
  ∃ n : ℕ, f = BitVec.ofNat 32 n ∧ n + w ≤ 256 ∧ thr n ≤ v ∧ (n + w = 256 ∨ v < thr (n + w))

theorem Inv.step {v : EReal} {b : ℕ} {f : BitVec 32} (hb : 1 ≤ b) (h : Inv v (b + b) f) :
    Inv v b (step v (BitVec.ofNat 32 b) f) := by
  obtain ⟨n, rfl, hn, hlo, hhi⟩ := h
  have ha : IntOp.addi (BitVec.ofNat 32 n) (BitVec.ofNat 32 b) = BitVec.ofNat 32 (n + b) := by
    unfold IntOp.addi; exact (BitVec.ofNat_add n b).symm
  unfold Halo.step
  rw [ha, pw_eq (n + b) (by omega)]
  unfold Ideal.cmp
  by_cases hv : v < thr (n + b)
  · refine ⟨n, ?_, by omega, hlo, Or.inr hv⟩
    simp [Scalar.select, hv]
  · refine ⟨n + b, ?_, by omega, not_lt.mp hv, ?_⟩
    · simp [Scalar.select, hv]
    · rw [Nat.add_assoc]; exact hhi

theorem field_spec {v : EReal} (h0 : 0 ≤ v) (hv : v < thr 253) :
    ∃ n : ℕ, n ≤ 252 ∧ field v = BitVec.ofNat 32 n ∧ thr n ≤ v ∧ v < thr (n + 1) := by
  have i0 : Inv v (128 + 128) 0#32 := ⟨0, rfl, by norm_num, by simpa [thr] using h0, Or.inl rfl⟩
  have i1 := Inv.step (b := 128) (by norm_num) i0
  have i2 := Inv.step (b := 64) (by norm_num) i1
  have i3 := Inv.step (b := 32) (by norm_num) i2
  have i4 := Inv.step (b := 16) (by norm_num) i3
  have i5 := Inv.step (b := 8) (by norm_num) i4
  have i6 := Inv.step (b := 4) (by norm_num) i5
  have i7 := Inv.step (b := 2) (by norm_num) i6
  obtain ⟨n, hf, hn, hlo, hhi⟩ := Inv.step (b := 1) (by norm_num) i7
  have hn' : n ≤ 252 := by
    by_contra hc
    exact absurd (lt_of_le_of_lt (le_trans (thr_mono (by omega : 253 ≤ n)) hlo) hv) (lt_irrefl _)
  exact ⟨n, hn', hf, hlo, hhi.resolve_left (by omega)⟩

theorem thr_pos {n : ℕ} (h1 : 1 ≤ n) (h2 : n ≤ 254) : thr n = (((2 : ℝ) ^ ((n : ℤ) - 127) : ℝ) : EReal) := by
  unfold thr; rw [if_neg (by omega), if_pos h2]

theorem expo_zero : expo (BitVec.ofNat 32 0) = 0#32 := by decide

theorem expo_bits : ∀ n : Fin 253, n.val ≠ 0 →
    IntOp.addi (expo (BitVec.ofNat 32 n.val)) 127#32 = BitVec.ofNat 32 (n.val + 1) ∧
    IntOp.subi 127#32 (expo (BitVec.ofNat 32 n.val)) = BitVec.ofNat 32 (253 - n.val) := by decide +kernel

/-- The two powers of two of the reference's search. -/
def powR (k : Fin 253) : EReal := Ideal.pow (((2 : ℝ)) : EReal) ((((k.val : ℤ) - 125 : ℤ) : ℝ) : EReal)

theorem powR_eq (k : Fin 253) : powR k = (((2 : ℝ) ^ ((k.val : ℤ) - 125) : ℝ) : EReal) := by
  have h : Ideal.pow (((2 : ℝ)) : EReal) ((((k.val : ℤ) - 125 : ℤ) : ℝ) : EReal)
      = ((Real.rpow 2 (((k.val : ℤ) - 125 : ℤ) : ℝ) : ℝ) : EReal) := rfl
  exact h.trans (congrArg (fun r : ℝ => (r : EReal)) (Real.rpow_intCast 2 _))

/-- The reference's scale: 1 below the least normal float, else the least of the powers of two 2^-125 … 2^127 above `v`. -/
def scaleR (v : EReal) : EReal :=
  if v < thr 1 then 1 else Finset.univ.inf fun k : Fin 253 => if v < powR k then powR k else ⊤

theorem scaleR_of {v : EReal} {n : ℕ} (h1 : 1 ≤ n) (hn : n ≤ 252) (hlo : thr n ≤ v) (hhi : v < thr (n + 1)) :
    scaleR v = (((2 : ℝ) ^ ((n : ℤ) - 126) : ℝ) : EReal) := by
  unfold scaleR
  rw [if_neg (not_lt.mpr (le_trans (thr_mono h1) hlo))]
  have e1 : thr (n + 1) = powR ⟨n - 1, by omega⟩ := by
    rw [thr_pos (by omega) (by omega), powR_eq]
    congr 2; push_cast [Nat.cast_sub h1]; ring
  have e2 : powR ⟨n - 1, by omega⟩ = (((2 : ℝ) ^ ((n : ℤ) - 126) : ℝ) : EReal) := by
    rw [powR_eq]; congr 2; push_cast [Nat.cast_sub h1]; ring
  rw [← e2]
  apply le_antisymm
  · refine le_trans (Finset.inf_le (Finset.mem_univ ⟨n - 1, by omega⟩)) ?_
    rw [if_pos (e1 ▸ hhi)]
  · refine Finset.le_inf fun k _ => ?_
    split_ifs with hk
    · rw [powR_eq, powR_eq]
      have : thr n < powR k := lt_of_le_of_lt hlo hk
      rw [thr_pos h1 (by omega), powR_eq] at this
      have h3 := (zpow_lt_zpow_iff_right₀ (by norm_num : (1 : ℝ) < 2)).mp (EReal.coe_lt_coe_iff.mp this)
      have h4 : ((n - 1 : ℕ) : ℤ) - 125 ≤ (k.val : ℤ) - 125 := by omega
      exact_mod_cast zpow_le_zpow_right₀ (by norm_num : (1 : ℝ) ≤ 2) h4
    · exact le_top

/-- The scale is a power of two, the kernel's scale is the reference's and the kernel's inverse is its inverse. -/
theorem scale_spec {v : EReal} (h0 : 0 ≤ v) (hv : v < thr 253) :
    ∃ k : ℤ, scaleR v = (((2 : ℝ) ^ k : ℝ) : EReal) ∧ scaleK v = (((2 : ℝ) ^ k : ℝ) : EReal) ∧
      invK v = (((2 : ℝ) ^ (-k) : ℝ) : EReal) := by
  obtain ⟨n, hn, hf, hlo, hhi⟩ := field_spec h0 hv
  by_cases hz : n = 0
  · subst hz
    refine ⟨0, ?_, ?_, ?_⟩
    · unfold scaleR; rw [if_pos (by simpa using hhi)]; simp
    · unfold scaleK; rw [hf, expo_zero]
      have : IntOp.addi 0#32 127#32 = BitVec.ofNat 32 127 := by decide
      rw [this, pw_eq _ (by norm_num), thr_pos (by norm_num) (by norm_num)]; norm_num
    · unfold invK; rw [hf, expo_zero]
      have : IntOp.subi 127#32 0#32 = BitVec.ofNat 32 127 := by decide
      rw [this, pw_eq _ (by norm_num), thr_pos (by norm_num) (by norm_num)]; norm_num
  · obtain ⟨e1, e2⟩ := expo_bits ⟨n, by omega⟩ hz
    simp only at e1 e2
    refine ⟨(n : ℤ) - 126, scaleR_of (by omega) hn hlo hhi, ?_, ?_⟩
    · unfold scaleK; rw [hf, e1, pw_eq _ (by omega), thr_pos (by omega) (by omega)]
      congr 2; push_cast; ring
    · unfold invK; rw [hf, e2, pw_eq _ (by omega), thr_pos (by omega) (by omega)]
      congr 2; rw [Nat.cast_sub (by omega)]; push_cast; ring

theorem scale_eq {v : EReal} (h0 : 0 ≤ v) (hv : v < thr 253) : scaleK v = scaleR v := by
  obtain ⟨k, h1, h2, -⟩ := scale_spec h0 hv
  rw [h1, h2]

theorem inv_eq {v : EReal} (h0 : 0 ≤ v) (hv : v < thr 253) : invK v = Ideal.div 1 (scaleR v) := by
  obtain ⟨k, h1, -, h3⟩ := scale_spec h0 hv
  rw [h1, h3]
  have hne : (((2 : ℝ) ^ k : ℝ) : EReal) ≠ 0 := by
    exact_mod_cast (by positivity : ((2 : ℝ) ^ k : ℝ) ≠ 0)
  unfold Ideal.div
  rw [if_neg hne, one_mul, zpow_neg, ← EReal.coe_inv]

end Cert.Halo
-- ==== Proof.Block.lean ====
/-
  A block of rows, quantised: what one row block of the kernel computes from its transformed tiles, as operations on whole
  vectors (`av`, `scaleV`, `codesV`, spelt as the body spells them) and read at an index.

  A row block has `R` rows; its tiles `gs` have 256 columns each. `av_apply`: the row's amax over all tiles, as the supremum over
  the columns of the whole row. `tileCode` is the code a tile element gets.
-/
module

public import Idealize.ShloMosaic.Lib.Pointwise
public import Idealize.ShloMosaic.Lib.Pointwise.IndexVar
public import proofs.«01_k».proof.Proof.Quant

@[expose] public section

set_option maxRecDepth 16384

noncomputable section

namespace Cert.Halo

open Idealize.ShloMosaic

/-- A matrix shape. -/
abbrev Sh (a b : ℕ) : Shape := ⟨2, ![a, b]⟩
/-- A vector shape. -/
abbrev Sv (a : ℕ) : Shape := ⟨1, ![a]⟩

variable {s : Shape}

/-! ## The search, the scale and the inverse on a vector -/

def stepV (v : FVec Ideal s .f32) (b : BitVec 32) (f : IVec s 32) : IVec s 32 :=
  select (cmpf .olt v (bitcastToFloat .f32 (shli (addi f (broadcast s b)) (broadcast s 23#32)))) f (addi f (broadcast s b))

def fieldV (v : FVec Ideal s .f32) : IVec s 32 :=
  stepV v 1#32 (stepV v 2#32 (stepV v 4#32 (stepV v 8#32 (stepV v 16#32 (stepV v 32#32 (stepV v 64#32
    (stepV v 128#32 (broadcast s 0#32))))))))

def expoV (f : IVec s 32) : IVec s 32 :=
  select (cmpi .eq f (broadcast s 0#32)) (broadcast s 0#32) (subi f (broadcast s 126#32))

def scaleV (v : FVec Ideal s .f32) : FVec Ideal s .f32 :=
  bitcastToFloat .f32 (shli (addi (expoV (fieldV v)) (broadcast s 127#32)) (broadcast s 23#32))

def invV (v : FVec Ideal s .f32) : FVec Ideal s .f32 :=
  bitcastToFloat .f32 (shli (subi (broadcast s 127#32) (expoV (fieldV v))) (broadcast s 23#32))

theorem stepV_apply (v : FVec Ideal s .f32) (b : BitVec 32) (f : IVec s 32) (j : s.Idx) :
    stepV v b f j = step (v j) b (f j) := rfl

theorem fieldV_apply (v : FVec Ideal s .f32) (j : s.Idx) : fieldV v j = field (v j) := by
  unfold fieldV field
  simp only [stepV_apply]
  rfl

theorem expoV_apply (f : IVec s 32) (j : s.Idx) : expoV f j = expo (f j) := rfl

theorem scaleV_apply (v : FVec Ideal s .f32) (j : s.Idx) : scaleV v j = scaleK (v j) := by
  unfold scaleK
  rw [← fieldV_apply, ← expoV_apply]
  unfold scaleV
  generalize expoV (fieldV v) = e
  rfl

theorem invV_apply (v : FVec Ideal s .f32) (j : s.Idx) : invV v j = invK (v j) := by
  unfold invK
  rw [← fieldV_apply, ← expoV_apply]
  unfold invV
  generalize expoV (fieldV v) = e
  rfl

/-! ## Scalars -/

/-- The absolute value. -/
def ab (x : EReal) : EReal := max x (-x)

/-- 1/448 as the program's float. -/
def c448 : EReal := Ideal.ofBits .f32 0x3B124925#32

/-- Clipping to ±448. -/
def clip (x : EReal) : EReal := min (Ideal.ofBits .f32 0x43E00000#32) (max (Ideal.ofBits .f32 0xC3E00000#32) x)

/-- The code of a raw element `g` (before the normalisation `n`) of a row whose raw amax is `a`. -/
def codeK (n a g : EReal) : EReal := clip (g * (invK (a * n * c448) * n))

/-! ## A row block of `R` rows -/

/-- The shape facts of a block of `R` rows. -/
structure RowFacts (R : ℕ) : Prop where
  ne : R ≠ 1
  sl0 : (Sh R 256).Slices ![0, 0] (Sh R 128)
  sl1 : (Sh R 256).Slices ![0, 128] (Sh R 128)
  red : (Sh R 128).Reduces [1] (Sv R)
  cast1 : (Sv R).ShapeCasts (Sh R 1)
  bc : (Sh R 1).Broadcasts (Sh R 256)

variable {R : ℕ} (h : RowFacts R)

/-- The two halves' larger magnitude. -/
def halfV (g : FVec Ideal (Sh R 256) .f32) : FVec Ideal (Sh R 128) .f32 :=
  maximumf (extractStridedSlice (Sh R 128) ![0, 0] (absf g) h.sl0) (extractStridedSlice (Sh R 128) ![0, 128] (absf g) h.sl1)

/-- The running maximum over the tiles. -/
def maxV (g : FVec Ideal (Sh R 256) .f32) (gs : List (FVec Ideal (Sh R 256) .f32)) : FVec Ideal (Sh R 128) .f32 :=
  gs.foldl (fun m g => maximumf m (halfV h g)) (halfV h g)

/-- The rows' amax, normalised (`nb` the float word of the normalisation) and divided by 448. -/
def av (nb : BitVec 32) (g : FVec Ideal (Sh R 256) .f32) (gs : List (FVec Ideal (Sh R 256) .f32)) : FVec Ideal (Sh R 1) .f32 :=
  mulf (mulf (shapeCast (Sh R 1) (multiReduction .maximumf [1] (Sv R) (maxV h g gs) 0xFF800000#32 h.red (.inl rfl) rfl) h.cast1)
    (broadcast (Sh R 1) (Scalar.ofBits .f32 nb))) (broadcast (Sh R 1) (Scalar.ofBits .f32 0x3B124925#32))

/-- A tile's codes. -/
def codesV (nb : BitVec 32) (v : FVec Ideal (Sh R 1) .f32) (g : FVec Ideal (Sh R 256) .f32) (hb : FTy.bits .fp8e4m3 < FTy.bits .f32) :
    FVec Ideal (Sh R 256) .fp8e4m3 :=
  truncf .fp8e4m3 (minimumf (broadcast (Sh R 256) (Scalar.ofBits .f32 0x43E00000#32)) (maximumf
    (broadcast (Sh R 256) (Scalar.ofBits .f32 0xC3E00000#32))
    (mulf g (broadcastTo (Sh R 256) (mulf (invV v) (broadcast (Sh R 1) (Scalar.ofBits .f32 nb))) h.bc)))) hb

theorem bc_apply (x : FVec Ideal (Sh R 1) .f32) (r : Fin R) (q : Fin 256) :
    broadcastTo (Sh R 256) x h.bc (ix2 r q) = x (ix2 r 0) := by
  unfold broadcastTo
  congr 1
  funext a
  match a with
  | ⟨0, _⟩ => exact dif_neg h.ne
  | ⟨1, _⟩ => exact dif_pos rfl

theorem codesV_apply (nb : BitVec 32) (v : FVec Ideal (Sh R 1) .f32) (g : FVec Ideal (Sh R 256) .f32) (hb) (r : Fin R) (q : Fin 256) :
    codesV h nb v g hb (ix2 r q) = clip (g (ix2 r q) * (invK (v (ix2 r 0)) * Ideal.ofBits .f32 nb)) := by
  unfold codesV
  have e := bc_apply h (mulf (invV v) (broadcast (Sh R 1) (Scalar.ofBits .f32 nb))) r q
  generalize broadcastTo (Sh R 256) (mulf (invV v) (broadcast (Sh R 1) (Scalar.ofBits .f32 nb))) h.bc = B at e ⊢
  pointwise [clip]
  rw [e]
  pointwise [invV_apply]

theorem halfV_apply (g : FVec Ideal (Sh R 256) .f32) (r : Fin R) (l : Fin 128) :
    halfV h g (ix2 r l) = max (ab (g (ix2 r ⟨l.val, by omega⟩))) (ab (g (ix2 r ⟨128 + l.val, by omega⟩))) := by
  unfold halfV
  pointwise [ab]
  rfl

theorem maxV_le (g : FVec Ideal (Sh R 256) .f32) (gs : List (FVec Ideal (Sh R 256) .f32)) (r : Fin R) (l : Fin 128) (b : EReal) :
    maxV h g gs (ix2 r l) ≤ b ↔ ∀ g' ∈ g :: gs, halfV h g' (ix2 r l) ≤ b := by
  unfold maxV
  suffices H : ∀ m : FVec Ideal (Sh R 128) .f32, gs.foldl (fun m g => maximumf m (halfV h g)) m (ix2 r l) ≤ b
      ↔ m (ix2 r l) ≤ b ∧ ∀ g' ∈ gs, halfV h g' (ix2 r l) ≤ b by
    rw [H]; simp
  induction gs with
  | nil => intro m; simp
  | cons a gs ih =>
    intro m
    rw [List.foldl_cons, ih]
    have : maximumf m (halfV h a) (ix2 r l) = max (m (ix2 r l)) (halfV h a (ix2 r l)) := rfl
    rw [this, max_le_iff, List.forall_mem_cons, and_assoc]

theorem ofBits_neg_inf : Ideal.ofBits .f32 0xFF800000#32 = ⊥ := by
  simp [Ideal.ofBits, Ideal.ieee]

theorem red_apply (m : FVec Ideal (Sh R 128) .f32) (r : Fin R) :
    shapeCast (Sh R 1) (multiReduction .maximumf [1] (Sv R) m 0xFF800000#32 h.red (.inl rfl) rfl) h.cast1 (ix2 r 0)
      = Finset.univ.sup fun l : Fin 128 => m (ix2 r l) := by
  have e : ∀ hc : (Sh R 1).numel = (Sv R).numel, Shape.reshapeEquiv hc (ix2 r 0) = ix1 r := by
    intro hc
    refine Shape.reshapeEquiv_eq_of_rowMajor hc ?_
    rw [rowMajor_val2 _ 1 rfl, rowMajor_val1]
    show r.val = r.val * 1 + 0
    omega
  pointwise [e, ofBits_neg_inf]
  rfl

/-- The row's normalised amax over 448, where tile `k`'s element `q` of the row is `F (256 k + q)`. -/
theorem av_apply (nb : BitVec 32) {n : ℕ} (G : Fin (n + 1) → FVec Ideal (Sh R 256) .f32) (r : Fin R)
    (F : Fin ((n + 1) * 256) → EReal)
    (hG : ∀ (k : Fin (n + 1)) (q : Fin 256), G k (ix2 r q) = F ⟨k.val * 256 + q.val, by omega⟩) :
    av h nb (G 0) (List.ofFn fun k : Fin n => G k.succ) (ix2 r 0)
      = (Finset.univ.sup fun j => ab (F j)) * Ideal.ofBits .f32 nb * c448 := by
  have hs : (Finset.univ.sup fun l : Fin 128 => maxV h (G 0) (List.ofFn fun k : Fin n => G k.succ) (ix2 r l))
      = Finset.univ.sup fun j => ab (F j) := by
    have hl : (G 0 :: List.ofFn fun k : Fin n => G k.succ) = List.ofFn G := (List.ofFn_succ (f := G)).symm
    refine eq_of_forall_ge_iff fun b => ?_
    simp only [Finset.sup_le_iff, Finset.mem_univ, true_implies, maxV_le, hl, List.forall_mem_ofFn_iff, halfV_apply, hG, max_le_iff]
    constructor
    · intro H j
      have hk : j.val / 256 < n + 1 := by omega
      rcases Nat.lt_or_ge (j.val % 256) 128 with hq | hq
      · have := (H ⟨j.val % 256, hq⟩ ⟨j.val / 256, hk⟩).1
        have e : (⟨j.val / 256 * 256 + j.val % 256, by omega⟩ : Fin ((n + 1) * 256)) = j := Fin.ext (by simp only; omega)
        simpa only [e] using this
      · have := (H ⟨j.val % 256 - 128, by omega⟩ ⟨j.val / 256, hk⟩).2
        have e : (⟨j.val / 256 * 256 + (128 + (j.val % 256 - 128)), by omega⟩ : Fin ((n + 1) * 256)) = j :=
          Fin.ext (by simp only; omega)
        simpa only [e] using this
    · intro H l k
      exact ⟨H _, H _⟩
  rw [← hs, ← red_apply h]
  rfl

end Cert.Halo
-- ==== Proof.Spec.lean ====
/-
  What one quantised row of the kernel is, on plain functions: the transformed row (`had`), its codes (`rowCode`) and its
  scale (`rowScale`). The kernel's blocks (`Dyo`, `Dx`, `Dyt`, `Dw`) are read as these.
-/
module

public import proofs.«01_k».proof.Proof.Block

@[expose] public section

noncomputable section

namespace Cert.Halo

open Idealize.ShloMosaic

variable {N : ℕ}

/-- A row in groups of 256, each group times the 256 × 256 matrix `s`. -/
def had (hN : 256 ∣ N) (f : Fin N → EReal) (s : Fin 256 → Fin 256 → EReal) (j : Fin N) : EReal :=
  ∑ p : Fin 256, f ⟨j.val / 256 * 256 + p.val, by have := j.isLt; omega⟩ * s p ⟨j.val % 256, by omega⟩

/-- The codes of the raw row `F`, normalised by `n`. -/
def rowCode (n : EReal) (F : Fin N → EReal) (j : Fin N) : EReal := codeK n (Finset.univ.sup fun i => ab (F i)) (F j)

/-- The scale of the raw row `F`, normalised by `n`. -/
def rowScale (n : EReal) (F : Fin N → EReal) : EReal := scaleK ((Finset.univ.sup fun i => ab (F i)) * n * c448)

theorem d2304 : 256 ∣ 2304 := by decide
theorem d2048 : 256 ∣ 2048 := by decide

/-- 1/16, the normalisation of the transform over the outputs. -/
abbrev nOut : EReal := Ideal.ofBits .f32 0x3D800000#32
/-- 128^(-1/2) as a float, the normalisation of the transform over the tokens. -/
abbrev nTok : EReal := Ideal.ofBits .f32 0x3DB504F3#32

/-- `had` at the element `q` of group `k`. -/
theorem had_tile (hN : 256 ∣ N) (f : Fin N → EReal) (s : Fin 256 → Fin 256 → EReal) (k : ℕ) (q : Fin 256) (h : k * 256 + q.val < N) :
    had hN f s ⟨k * 256 + q.val, h⟩ = ∑ p : Fin 256, f ⟨k * 256 + p.val, by omega⟩ * s p q := by
  unfold had
  refine Finset.sum_congr rfl fun p _ => ?_
  congr 2
  · exact Fin.ext (by simp only; omega)
  · exact Fin.ext (by simp only; omega)

end Cert.Halo
-- ==== Proof.Dx.lean ====
/-
  The kernel's second call, one block: 480 rows of the transposed weights, transformed and quantised by rows in five groups of 96,
  and the products with the quantised output gradient. Here the block's stores as functions; `DxRun` shows that the body makes them.
-/
module

public import proofs.«01_k».proof.Proof.Gen.KernelIdeal.Frame
public import Idealize.ShloMosaic.Lib.Pipeline.ValueKit
public import Idealize.ShloMosaic.Lib.Pipeline.ReadBack
public import proofs.«01_k».proof.Proof.Spec

@[expose] public section

set_option maxRecDepth 16384

noncomputable section

namespace Cert.KernelIdeal.Halo

open Idealize.ShloMosaic Idealize.ShloMosaic.TcCoe Cert.KernelIdeal.Gen
open Idealize.SL Idealize.SL.Sem
open Cert.Halo

theorem facts96 : RowFacts 96 := ⟨by decide, by decide, by decide, by decide, by decide, by decide⟩

theorem inb1 (u : Fin 5) (k : Fin 9) : ∀ a, ![u.val * 96, k.val * 256] a + ![96, 256] a ≤ S480x2304.size a := by
  revert u k; decide
theorem inb1s (u : Fin 5) : ∀ a, ![u.val * 96, 0] a + ![96, 1] a ≤ S480x1.size a := by revert u; decide
theorem inb1d (n : Fin 8) : ∀ a, ![n.val * 256, 0] a + ![256, 2304] a ≤ S2048x2304.size a := by revert n; decide
theorem inb1e (n : Fin 8) : ∀ a, ![0, n.val * 256] a + ![1, 256] a ≤ S1x2048.size a := by revert n; decide
theorem inb1o (n : Fin 8) : ∀ a, ![n.val / 4, 0, n.val % 4 * 256] a + ![1, 480, 256] a ≤ S2x480x1024.size a := by revert n; decide

/-- The group and the tile of store `k`. -/
def grp1 (k : Fin 45) : Fin 5 := ⟨k.val / 9, by omega⟩
def til1 (k : Fin 45) : Fin 9 := ⟨k.val % 9, by omega⟩

/-- Tile `k` of the rows of group `u` times the matrix. -/
def tile1 (x0 : Vec Ideal S480x2304 .bf16) (x3 : Vec Ideal S256x256 .bf16) (u : Fin 5) (k : Fin 9) : FVec Ideal S96x256 .f32 :=
  matmul (φ₁ := .bf16) (φ₂ := .bf16) dot_S96x256_S256x256_S96x256_1_0_0_1_n_n none
    (shapeCast (α := Ideal .bf16) S96x256 (View.ld (Val := Elt Ideal) (e' := .bf16) x0 (Rect.unit ![u.val * 96, k.val * 256] ![96, 256] (inb1 u k)))
      shapeCasts_S96x256_S96x256)
    x3 (constant S96x256 .f32 0x00000000#32)

/-- A group's amax over 448, by rows. -/
def av1 (x0 : Vec Ideal S480x2304 .bf16) (x3 : Vec Ideal S256x256 .bf16) (u : Fin 5) : FVec Ideal (Sh 96 1) .f32 :=
  av facts96 0x3D800000#32 (tile1 x0 x3 u 0) (List.ofFn fun k : Fin 8 => tile1 x0 x3 u k.succ)

/-- A tile's codes. -/
def sc1 (x0 : Vec Ideal S480x2304 .bf16) (x3 : Vec Ideal S256x256 .bf16) (u : Fin 5) (k : Fin 9) : FVec Ideal S96x256 .fp8e4m3 :=
  codesV facts96 0x3D800000#32 (av1 x0 x3 u) (shapeCast S96x256 (tile1 x0 x3 u k) shapeCasts_S96x256_S96x256) bitsLt_fp8e4m3_f32

/-- Row `r` transformed. -/
def row1 (x0 : Vec Ideal S480x2304 .bf16) (x3 : Vec Ideal S256x256 .bf16) (r : Fin 480) : Fin 2304 → EReal :=
  had d2304 (fun j => x0 (ix2 r j)) fun p q => x3 (ix2 p q)

theorem tile1_apply (x0 : Vec Ideal S480x2304 .bf16) (x3 : Vec Ideal S256x256 .bf16) (u : Fin 5) (k : Fin 9) (r : Fin 96) (q : Fin 256) :
    tile1 x0 x3 u k (ix2 r q) = row1 x0 x3 ⟨u.val * 96 + r.val, by omega⟩ ⟨k.val * 256 + q.val, by omega⟩ := by
  unfold tile1 row1
  rw [had_tile]
  pointwise

theorem av1_apply (x0 : Vec Ideal S480x2304 .bf16) (x3 : Vec Ideal S256x256 .bf16) (u : Fin 5) (r : Fin 96) :
    av1 x0 x3 u (ix2 r 0) = (Finset.univ.sup fun i => ab (row1 x0 x3 ⟨u.val * 96 + r.val, by omega⟩ i)) * nOut * c448 :=
  av_apply facts96 0x3D800000#32 (n := 8) (tile1 x0 x3 u) r (row1 x0 x3 ⟨u.val * 96 + r.val, by omega⟩)
    fun k q => tile1_apply x0 x3 u k r q

theorem sc1_apply (x0 : Vec Ideal S480x2304 .bf16) (x3 : Vec Ideal S256x256 .bf16) (u : Fin 5) (k : Fin 9) (r : Fin 96) (q : Fin 256) :
    sc1 x0 x3 u k (ix2 r q) = rowCode nOut (row1 x0 x3 ⟨u.val * 96 + r.val, by omega⟩) ⟨k.val * 256 + q.val, by omega⟩ := by
  unfold sc1 rowCode codeK
  rw [codesV_apply, av1_apply, ← tile1_apply]
  generalize tile1 x0 x3 u k = g
  generalize invK _ = a
  pointwise

/-- The stores of the codes, the last one first. -/
def pieces1 (x0 : Vec Ideal S480x2304 .bf16) (x3 : Vec Ideal S256x256 .bf16) : List (View.Piece (Elt Ideal) S480x2304 .fp8e4m3) :=
  List.ofFn fun k : Fin 45 => ⟨Rect.unit ![(grp1 k.rev).val * 96, (til1 k.rev).val * 256] ![96, 256] (inb1 (grp1 k.rev) (til1 k.rev)),
    sc1 x0 x3 (grp1 k.rev) (til1 k.rev)⟩

/-- The stores of the scales. -/
def pieces1s (x0 : Vec Ideal S480x2304 .bf16) (x3 : Vec Ideal S256x256 .bf16) : List (View.Piece (Elt Ideal) S480x1 .f32) :=
  List.ofFn fun u : Fin 5 => ⟨Rect.unit ![u.rev.val * 96, 0] ![96, 1] (inb1s u.rev), scaleV (av1 x0 x3 u.rev)⟩

theorem pieces1_apply (x0 : Vec Ideal S480x2304 .bf16) (x3 : Vec Ideal S256x256 .bf16) (y : S480x2304.Idx) (r : Fin 480) (j : Fin 2304)
    (hr : (y 0).val = r.val) (hj : (y 1).val = j.val) :
    View.canon (Val := Elt Ideal) (e := .fp8e4m3) (pieces1 x0 x3) y = rowCode nOut (row1 x0 x3 r) j := by
  unfold pieces1
  canon_tiles y h
  · have e : r = ⟨(grp1 k.rev).val * 96 + (y 0).val, by omega⟩ := Fin.ext (by simp only; omega)
    have e' : j = ⟨(til1 k.rev).val * 256 + (y 1).val, by omega⟩ := Fin.ext (by simp only; omega)
    rw [e, e']
    exact (congrArg _ (eq_ix2 y)).trans (sc1_apply x0 x3 _ _ (y 0) (y 1))
  · refine ⟨(⟨r.val / 96 * 9 + j.val / 256, by omega⟩ : Fin 45).rev, fun a => ?_⟩
    rw [Fin.rev_rev]
    have e : (grp1 ⟨r.val / 96 * 9 + j.val / 256, by omega⟩).val = r.val / 96 := by unfold grp1; simp only; omega
    have e' : (til1 ⟨r.val / 96 * 9 + j.val / 256, by omega⟩).val = j.val / 256 := by unfold til1; simp only; omega
    rw [e, e']
    match a with
    | ⟨0, _⟩ => exact ⟨by show r.val / 96 * 96 ≤ (y 0).val; omega, by show (y 0).val < r.val / 96 * 96 + 96; omega⟩
    | ⟨1, _⟩ => exact ⟨by show j.val / 256 * 256 ≤ (y 1).val; omega, by show (y 1).val < j.val / 256 * 256 + 256; omega⟩

theorem pieces1s_apply (x0 : Vec Ideal S480x2304 .bf16) (x3 : Vec Ideal S256x256 .bf16) (y : S480x1.Idx) (r : Fin 480)
    (hr : (y 0).val = r.val) :
    View.canon (Val := Elt Ideal) (e := .f32) (pieces1s x0 x3) y = rowScale nOut (row1 x0 x3 r) := by
  unfold pieces1s
  canon_tiles y h
  · have e : r = ⟨k.rev.val * 96 + (y 0).val, by omega⟩ := Fin.ext (by simp only; omega)
    have ey : y = ix2 (y 0) 0 := by blk_ext
    rw [e]
    refine (scaleV_apply _ _).trans ?_
    unfold rowScale
    refine congrArg scaleK ?_
    exact (congrArg _ ey).trans (av1_apply x0 x3 k.rev (y 0))
  · refine ⟨(⟨r.val / 96, by omega⟩ : Fin 5).rev, fun a => ?_⟩
    rw [Fin.rev_rev]
    match a with
    | ⟨0, _⟩ => exact ⟨by show r.val / 96 * 96 ≤ (y 0).val; omega, by show (y 0).val < r.val / 96 * 96 + 96; omega⟩
    | ⟨1, _⟩ => exact ⟨Nat.zero_le _, by have h1 : (y 1).val < 1 := (y 1).isLt; show (y 1).val < 0 + 1; omega⟩

/-- The product tile `n`: the codes `C` with 256 rows of the other side, times the two scales. -/
def out1 (C : FVec Ideal S480x2304 .fp8e4m3) (S : FVec Ideal S480x1 .f32) (x1 : Vec Ideal S2048x2304 .fp8e4m3) (x2 : Vec Ideal S1x2048 .f32)
    (n : Fin 8) : FVec Ideal S1x480x256 .bf16 :=
  shapeCast S1x480x256 (truncf .bf16 (mulf (mulf
    (matmul (φ₁ := .fp8e4m3) (φ₂ := .fp8e4m3) dot_S480x2304_S256x2304_S480x256_1_1_0_0_n_n none
      (shapeCast S480x2304 C shapeCasts_S480x2304_S480x2304)
      (shapeCast (α := Ideal .fp8e4m3) S256x2304
        (View.ld (Val := Elt Ideal) (e' := .fp8e4m3) x1 (Rect.unit ![n.val * 256, 0] ![256, 2304] (inb1d n))) shapeCasts_S256x2304_S256x2304)
      (constant S480x256 .f32 0x00000000#32))
    (broadcastTo S480x256 (shapeCast (α := Ideal .f32) S1x256
      (View.ld (Val := Elt Ideal) (e' := .f32) x2 (Rect.unit ![0, n.val * 256] ![1, 256] (inb1e n))) shapeCasts_S1x256_S1x256) broadcasts_S1x256_S480x256))
    (broadcastTo S480x256 (shapeCast S480x1 S shapeCasts_S480x1_S480x1) broadcasts_S480x1_S480x256)) bitsLt_bf16_f32)
    shapeCasts_S480x256_S1x480x256

theorem out1_apply (C : FVec Ideal S480x2304 .fp8e4m3) (S : FVec Ideal S480x1 .f32) (x1 : Vec Ideal S2048x2304 .fp8e4m3) (x2 : Vec Ideal S1x2048 .f32)
    (n : Fin 8) (r : Fin 480) (q : Fin 256) :
    out1 C S x1 x2 n (ix3 0 r q) = (∑ j : Fin 2304, C (ix2 r j) * x1 (ix2 ⟨n.val * 256 + q.val, by omega⟩ j))
      * x2 (ix2 0 ⟨n.val * 256 + q.val, by omega⟩) * S (ix2 r 0) := by
  unfold out1
  pointwise

/-- The stores of the products. -/
def pieces1o (C : FVec Ideal S480x2304 .fp8e4m3) (S : FVec Ideal S480x1 .f32) (x1 : Vec Ideal S2048x2304 .fp8e4m3) (x2 : Vec Ideal S1x2048 .f32) :
    List (View.Piece (Elt Ideal) S2x480x1024 .bf16) :=
  List.ofFn fun n : Fin 8 => ⟨Rect.unit ![n.rev.val / 4, 0, n.rev.val % 4 * 256] ![1, 480, 256] (inb1o n.rev), out1 C S x1 x2 n.rev⟩

theorem pieces1o_apply (C : FVec Ideal S480x2304 .fp8e4m3) (S : FVec Ideal S480x1 .f32) (x1 : Vec Ideal S2048x2304 .fp8e4m3)
    (x2 : Vec Ideal S1x2048 .f32) (y : S2x480x1024.Idx) (r : Fin 480) (i : Fin 2048)
    (hr : (y 1).val = r.val) (hi : (y 0).val * 1024 + (y 2).val = i.val) :
    View.canon (Val := Elt Ideal) (e := .bf16) (pieces1o C S x1 x2) y
      = (∑ j : Fin 2304, C (ix2 r j) * x1 (ix2 i j)) * x2 (ix2 0 i) * S (ix2 r 0) := by
  unfold pieces1o
  canon_tiles y h
  · obtain rfl : r = y 1 := Fin.ext (by omega)
    have e : i = ⟨k.rev.val * 256 + (y 2).val, by omega⟩ := Fin.ext (by simp only; omega)
    have ey : y = ix3 0 (y 1) (y 2) := by blk_ext
    rw [e]
    exact (congrArg _ ey).trans (out1_apply C S x1 x2 k.rev (y 1) (y 2))
  · refine ⟨(⟨i.val / 256, by omega⟩ : Fin 8).rev, fun a => ?_⟩
    rw [Fin.rev_rev]
    have hy : (y 2).val < 1024 := (y 2).isLt
    match a with
    | ⟨0, _⟩ => exact ⟨by show i.val / 256 / 4 ≤ (y 0).val; omega, by show (y 0).val < i.val / 256 / 4 + 1; omega⟩
    | ⟨1, _⟩ => exact ⟨Nat.zero_le _, by show (y 1).val < 0 + 480; omega⟩
    | ⟨2, _⟩ => exact ⟨by show i.val / 256 % 4 * 256 ≤ (y 2).val; omega, by show (y 2).val < i.val / 256 % 4 * 256 + 256; omega⟩

end Cert.KernelIdeal.Halo
-- ==== Proof.DxRun.lean ====
/-
  The kernel's second call: the body of a block makes the stores of `Dx`, and the call's three result arrays.
-/
module

public import proofs.«01_k».proof.Proof.Dx

@[expose] public section

set_option maxRecDepth 16384

noncomputable section

namespace Cert.KernelIdeal.Halo

open Idealize.ShloMosaic Idealize.ShloMosaic.TcCoe Cert.KernelIdeal.Gen
open Idealize.SL Idealize.SL.Sem
open Cert.Halo

variable (V : (c : Dev nD) → (b : Ref sig .tc) → Buf (Elt Ideal) ((c : Thread nD τ).loc b))

theorem codes1 (c : Dev nD) (t : Fin cfg1.N) (y : S480x2304.Idx) :
    (outsAt1 (F := Ideal) V c t).2.1 y = View.canon (Val := Elt Ideal) (e := .fp8e4m3) (pieces1 (iblk1 V c 0 t) (iblk1 V c 3 t)) y := by
  unfold outsAt1
  frame_open
  simp (disch := decide) only [↓ View.readCov_skip, ↓ View.readCov_cons_toLoadRect, ↓ View.readCov_fill]
  frame_out
  generalize iblk1 V c 0 t = x0
  generalize iblk1 V c 3 t = x3
  sl_kernel_rfl

theorem scale1 (c : Dev nD) (t : Fin cfg1.N) (y : S480x1.Idx) :
    (outsAt1 (F := Ideal) V c t).2.2 y = View.canon (Val := Elt Ideal) (e := .f32) (pieces1s (iblk1 V c 0 t) (iblk1 V c 3 t)) y := by
  unfold outsAt1
  frame_open
  simp (disch := decide) only [↓ View.readCov_skip, ↓ View.readCov_cons_toLoadRect, ↓ View.readCov_fill]
  frame_out
  generalize iblk1 V c 0 t = x0
  generalize iblk1 V c 3 t = x3
  sl_kernel_rfl

/-- The block's codes and scales read back. -/
def back1 (t : Fin cfg1.N) (x0 : Vec Ideal S480x2304 .bf16) (x3 : Vec Ideal S256x256 .bf16) : FVec Ideal S480x2304 .fp8e4m3 :=
  View.readCov (Val := Elt Ideal) (s := S480x2304) (e := .fp8e4m3) (ms1_5 t).view (pieces1 x0 x3)
    (Rect.unit (s := S480x2304) ![0, 0] ![480, 2304] inb_S480x2304_S480x2304_0_0).toLoadRect
def back1s (t : Fin cfg1.N) (x0 : Vec Ideal S480x2304 .bf16) (x3 : Vec Ideal S256x256 .bf16) : FVec Ideal S480x1 .f32 :=
  View.readCov (Val := Elt Ideal) (s := S480x1) (e := .f32) (ms1_6 t).view (pieces1s x0 x3)
    (Rect.unit (s := S480x1) ![0, 0] ![480, 1] inb_S480x1_S480x1_0_0).toLoadRect

theorem back1_apply (t : Fin cfg1.N) (x0 : Vec Ideal S480x2304 .bf16) (x3 : Vec Ideal S256x256 .bf16) (r : Fin 480) (j : Fin 2304) :
    back1 t x0 x3 (ix2 r j) = rowCode nOut (row1 x0 x3 r) j := by
  unfold back1
  rw [View.readCov_eq_canon']
  refine pieces1_apply x0 x3 _ _ _ ?_ ?_
  · show 0 + 1 * r.val = _
    omega
  · show 0 + 1 * j.val = _
    omega

theorem back1s_apply (t : Fin cfg1.N) (x0 : Vec Ideal S480x2304 .bf16) (x3 : Vec Ideal S256x256 .bf16) (r : Fin 480) :
    back1s t x0 x3 (ix2 r 0) = rowScale nOut (row1 x0 x3 r) := by
  unfold back1s
  rw [View.readCov_eq_canon']
  refine pieces1s_apply x0 x3 _ _ ?_
  show 0 + 1 * r.val = _
  omega

theorem prod1 (c : Dev nD) (t : Fin cfg1.N) (y : S2x480x1024.Idx) :
    (outsAt1 (F := Ideal) V c t).1 y = View.canon (Val := Elt Ideal) (e := .bf16)
      (pieces1o (back1 t (iblk1 V c 0 t) (iblk1 V c 3 t)) (back1s t (iblk1 V c 0 t) (iblk1 V c 3 t)) (iblk1 V c 1 t) (iblk1 V c 2 t)) y := by
  unfold outsAt1
  frame_open
  simp (disch := decide) only [↓ View.readCov_skip, ↓ View.readCov_cons_toLoadRect, ↓ View.readCov_fill]
  frame_out
  generalize iblk1 V c 0 t = x0
  generalize iblk1 V c 1 t = x1
  generalize iblk1 V c 2 t = x2
  generalize iblk1 V c 3 t = x3
  sl_kernel_rfl

theorem idx1 : ∀ t : Fin cfg1.N, win1_0.index t = ![t.val, 0] ∧ win1_1.index t = ![0, 0] ∧ win1_2.index t = ![0, 0]
    ∧ win1_3.index t = ![0, 0] ∧ win1_4.index t = ![0, t.val, 0] ∧ win1_5.index t = ![t.val, 0] ∧ win1_6.index t = ![t.val, 0] :=
  (by decide +kernel : ∀ t : Fin grid1.N, _)

theorem row1_arr (c : Dev nD) (t : Fin cfg1.N) (r : Fin 480) (i : Fin 2880) (hi : i.val = t.val * 480 + r.val) :
    row1 (iblk1 V c 0 t) (iblk1 V c 3 t) r = had d2304 (fun j => V c main_v1 (ix2 i j)) fun p q => V c main_cst (ix2 p q) := by
  unfold row1
  congr 1
  · funext j
    blk_ext [iblk1, idx1 t]
  · funext p q
    blk_ext [iblk1, idx1 t]

theorem arr1_codes (c : Dev nD) :
    (dat1 V c).arrAt 5 cfg1.N = fun i : S2880x2304.Idx =>
      rowCode nOut (had d2304 (fun j => V c main_v1 (ix2 (i 0) j)) fun p q => V c main_cst (ix2 p q)) (i 1) := by
  refine (dat1 V c).arrAt_eq_of_covers 5 _ (by decide +kernel) fun t hf y => ?_
  blk_simp
  rw [after1_5]
  refine (codes1 V c t y).trans ((pieces1_apply _ _ y (y 0) (y 1) rfl rfl).trans (congrArg₂ (rowCode nOut) ?_ (Fin.ext ?_)))
  · exact row1_arr V c t _ _ (by blk_simp [idx1 t])
  · blk_simp [idx1 t]

theorem arr1_scale (c : Dev nD) :
    (dat1 V c).arrAt 6 cfg1.N = fun i : S2880x1.Idx =>
      rowScale nOut (had d2304 (fun j => V c main_v1 (ix2 (i 0) j)) fun p q => V c main_cst (ix2 p q)) := by
  refine (dat1 V c).arrAt_eq_of_covers 6 _ (by decide +kernel) fun t hf y => ?_
  blk_simp
  rw [after1_6]
  refine (scale1 V c t y).trans ((pieces1s_apply _ _ y (y 0) rfl).trans (congrArg (rowScale nOut) ?_))
  exact row1_arr V c t _ _ (by blk_simp [idx1 t])

/-- Token `s` of batch `b` in the flat order. -/
def tok (b : ℕ) (s : ℕ) (hb : b < 2) (hs : s < 1024) : Fin 2048 := ⟨b * 1024 + s, by omega⟩

theorem prod1_arr (c : Dev nD) (t : Fin cfg1.N) (y : S2x480x1024.Idx) (g : Fin 2880) (i : Fin 2048)
    (hg : g.val = t.val * 480 + (y 1).val) (hi : (y 0).val * 1024 + (y 2).val = i.val) :
    (outsAt1 (F := Ideal) V c t).1 y
      = (∑ j : Fin 2304, rowCode nOut (had d2304 (fun j => V c main_v1 (ix2 g j)) fun p q => V c main_cst (ix2 p q)) j
          * (V c main_v3_0 (ix2 i j) : EReal)) * (V c main_v4 (ix2 0 i) : EReal)
        * rowScale nOut (had d2304 (fun j => V c main_v1 (ix2 g j)) fun p q => V c main_cst (ix2 p q)) := by
  rw [← row1_arr V c t (y 1) g hg]
  refine (prod1 V c t y).trans ((pieces1o_apply _ _ _ _ y (y 1) i rfl hi).trans ?_)
  refine congrArg₂ (· * ·) (congrArg₂ (· * ·) (Finset.sum_congr rfl fun k _ => congrArg₂ (· * ·) (back1_apply t _ _ _ _) ?_) ?_)
    (back1s_apply t _ _ _)
  · blk_ext [iblk1, idx1 t]
  · blk_ext [iblk1, idx1 t]

theorem arr1_prod (c : Dev nD) :
    (dat1 V c).arrAt 4 cfg1.N = fun i : S2x2880x1024.Idx =>
      (∑ j : Fin 2304, rowCode nOut (had d2304 (fun j => V c main_v1 (ix2 (i 1) j)) fun p q => V c main_cst (ix2 p q)) j
        * (V c main_v3_0 (ix2 (tok (i 0).val (i 2).val (i 0).isLt (i 2).isLt) j) : EReal))
        * (V c main_v4 (ix2 0 (tok (i 0).val (i 2).val (i 0).isLt (i 2).isLt)) : EReal)
        * rowScale nOut (had d2304 (fun j => V c main_v1 (ix2 (i 1) j)) fun p q => V c main_cst (ix2 p q)) := by
  refine (dat1 V c).arrAt_eq_of_covers 4 _ (by decide +kernel) fun t hf y => ?_
  blk_simp
  rw [after1_4]
  refine prod1_arr V c t y _ _ (by blk_simp [idx1 t]) ?_
  unfold tok
  blk_simp [idx1 t]

end Cert.KernelIdeal.Halo
-- ==== Proof.Dw.lean ====
/-
  The kernel's fourth call, one block: 480 rows of the transposed inputs (both batches), transformed over the tokens and quantised by
  rows in five groups of 96, and the products with the quantised output gradient. Here the block's stores as functions; `DwRun` shows
  that the body makes them.
-/
module

public import proofs.«01_k».proof.Proof.Gen.KernelIdeal.Frame
public import Idealize.ShloMosaic.Lib.Pipeline.ValueKit
public import Idealize.ShloMosaic.Lib.Pipeline.ReadBack
public import proofs.«01_k».proof.Proof.Spec

@[expose] public section

set_option maxRecDepth 16384

noncomputable section

namespace Cert.KernelIdeal.Halo

open Idealize.ShloMosaic Idealize.ShloMosaic.TcCoe Cert.KernelIdeal.Gen
open Idealize.SL Idealize.SL.Sem
open Cert.Halo

theorem facts96w : RowFacts 96 := ⟨by decide, by decide, by decide, by decide, by decide, by decide⟩

theorem inb3 (u : Fin 5) (k : Fin 8) : ∀ a, ![k.val / 4, u.val * 96, k.val % 4 * 256] a + ![1, 96, 256] a ≤ S2x480x1024.size a := by
  revert u k; decide
theorem inb3s (u : Fin 5) : ∀ a, ![u.val * 96, 0] a + ![96, 1] a ≤ S480x1.size a := by revert u; decide
theorem inb3d (n : Fin 9) : ∀ a, ![0, n.val * 256] a + ![2048, 256] a ≤ S2048x2304.size a := by revert n; decide
theorem inb3e (n : Fin 9) : ∀ a, ![0, n.val * 256] a + ![1, 256] a ≤ S1x2304.size a := by revert n; decide
theorem inb3o (n : Fin 9) : ∀ a, ![0, n.val * 256] a + ![480, 256] a ≤ S480x2304.size a := by revert n; decide

/-- The group and the tile of store `k`. -/
def grp3 (k : Fin 40) : Fin 5 := ⟨k.val / 8, by omega⟩
def til3 (k : Fin 40) : Fin 8 := ⟨k.val % 8, by omega⟩

/-- Tile `k` of the rows of group `u` times the matrix. -/
def tile3 (x0 : Vec Ideal S2x480x1024 .bf16) (x3 : Vec Ideal S256x256 .bf16) (u : Fin 5) (k : Fin 8) : FVec Ideal S96x256 .f32 :=
  matmul (φ₁ := .bf16) (φ₂ := .bf16) dot_S96x256_S256x256_S96x256_1_0_0_1_n_n none
    (shapeCast (α := Ideal .bf16) S96x256 (View.ld (Val := Elt Ideal) (e' := .bf16) x0
      (Rect.unit ![k.val / 4, u.val * 96, k.val % 4 * 256] ![1, 96, 256] (inb3 u k))) shapeCasts_S1x96x256_S96x256)
    x3 (constant S96x256 .f32 0x00000000#32)

/-- A group's amax over 448, by rows. -/
def av3 (x0 : Vec Ideal S2x480x1024 .bf16) (x3 : Vec Ideal S256x256 .bf16) (u : Fin 5) : FVec Ideal (Sh 96 1) .f32 :=
  av facts96w 0x3DB504F3#32 (tile3 x0 x3 u 0) (List.ofFn fun k : Fin 7 => tile3 x0 x3 u k.succ)

/-- A tile's codes. -/
def sc3 (x0 : Vec Ideal S2x480x1024 .bf16) (x3 : Vec Ideal S256x256 .bf16) (u : Fin 5) (k : Fin 8) : FVec Ideal S1x96x256 .fp8e4m3 :=
  shapeCast S1x96x256
    (codesV facts96w 0x3DB504F3#32 (av3 x0 x3 u) (shapeCast S96x256 (tile3 x0 x3 u k) shapeCasts_S96x256_S96x256) bitsLt_fp8e4m3_f32)
    shapeCasts_S96x256_S1x96x256

/-- Row `r` of the block over all tokens of both batches. -/
def flat3 (x0 : Vec Ideal S2x480x1024 .bf16) (r : Fin 480) (k : Fin 2048) : EReal :=
  x0 (ix3 ⟨k.val / 1024, by omega⟩ r ⟨k.val % 1024, by omega⟩)

/-- Row `r` transformed. -/
def row3 (x0 : Vec Ideal S2x480x1024 .bf16) (x3 : Vec Ideal S256x256 .bf16) (r : Fin 480) : Fin 2048 → EReal :=
  had d2048 (flat3 x0 r) fun p q => x3 (ix2 p q)

theorem cast3_apply (X : Vec Ideal S1x96x256 .bf16) (r : Fin 96) (p : Fin 256) :
    shapeCast (α := Ideal .bf16) S96x256 X shapeCasts_S1x96x256_S96x256 (ix2 r p) = X (ix3 0 r p) := by
  pointwise

theorem dot3_apply (X : FVec Ideal S96x256 .bf16) (x3 : Vec Ideal S256x256 .bf16) (r : Fin 96) (q : Fin 256) :
    matmul (φ₁ := .bf16) (φ₂ := .bf16) dot_S96x256_S256x256_S96x256_1_0_0_1_n_n none X x3 (constant S96x256 .f32 0x00000000#32) (ix2 r q)
      = ∑ p : Fin 256, X (ix2 r p) * x3 (ix2 p q) := by
  pointwise

theorem tile3_sum (x0 : Vec Ideal S2x480x1024 .bf16) (x3 : Vec Ideal S256x256 .bf16) (u : Fin 5) (k : Fin 8) (r : Fin 96) (q : Fin 256) :
    tile3 x0 x3 u k (ix2 r q) = ∑ p : Fin 256, x0 (ix3 ⟨k.val / 4, by omega⟩ ⟨u.val * 96 + r.val, by omega⟩ ⟨k.val % 4 * 256 + p.val, by omega⟩)
      * x3 (ix2 p q) := by
  unfold tile3
  refine (dot3_apply _ x3 r q).trans (Finset.sum_congr rfl fun p _ => congrArg (· * _) ?_)
  refine (cast3_apply _ r p).trans (congrArg x0 (funext fun a => Fin.ext ?_))
  match a with
  | ⟨0, _⟩ =>
    show k.val / 4 + 1 * 0 = k.val / 4
    omega
  | ⟨1, _⟩ =>
    show u.val * 96 + 1 * r.val = u.val * 96 + r.val
    omega
  | ⟨2, _⟩ =>
    show k.val % 4 * 256 + 1 * p.val = k.val % 4 * 256 + p.val
    omega

theorem tile3_apply (x0 : Vec Ideal S2x480x1024 .bf16) (x3 : Vec Ideal S256x256 .bf16) (u : Fin 5) (k : Fin 8) (r : Fin 96) (q : Fin 256) :
    tile3 x0 x3 u k (ix2 r q) = row3 x0 x3 ⟨u.val * 96 + r.val, by omega⟩ ⟨k.val * 256 + q.val, by omega⟩ := by
  unfold row3
  rw [had_tile, tile3_sum]
  refine Finset.sum_congr rfl fun p _ => congrArg (· * _) ?_
  unfold flat3
  have e : (⟨k.val / 4, by omega⟩ : Fin 2) = ⟨(k.val * 256 + p.val) / 1024, by omega⟩ := Fin.ext (by simp only; omega)
  have e' : (⟨k.val % 4 * 256 + p.val, by omega⟩ : Fin 1024) = ⟨(k.val * 256 + p.val) % 1024, by omega⟩ := Fin.ext (by simp only; omega)
  rw [e, e']

theorem av3_apply (x0 : Vec Ideal S2x480x1024 .bf16) (x3 : Vec Ideal S256x256 .bf16) (u : Fin 5) (r : Fin 96) :
    av3 x0 x3 u (ix2 r 0) = (Finset.univ.sup fun i => ab (row3 x0 x3 ⟨u.val * 96 + r.val, by omega⟩ i)) * nTok * c448 :=
  av_apply facts96w 0x3DB504F3#32 (n := 7) (tile3 x0 x3 u) r (row3 x0 x3 ⟨u.val * 96 + r.val, by omega⟩)
    fun k q => tile3_apply x0 x3 u k r q

theorem sc3_apply (x0 : Vec Ideal S2x480x1024 .bf16) (x3 : Vec Ideal S256x256 .bf16) (u : Fin 5) (k : Fin 8) (r : Fin 96) (q : Fin 256) :
    sc3 x0 x3 u k (ix3 0 r q) = rowCode nTok (row3 x0 x3 ⟨u.val * 96 + r.val, by omega⟩) ⟨k.val * 256 + q.val, by omega⟩ := by
  unfold sc3
  have e : codesV facts96w 0x3DB504F3#32 (av3 x0 x3 u) (shapeCast S96x256 (tile3 x0 x3 u k) shapeCasts_S96x256_S96x256) bitsLt_fp8e4m3_f32
      (ix2 r q) = rowCode nTok (row3 x0 x3 ⟨u.val * 96 + r.val, by omega⟩) ⟨k.val * 256 + q.val, by omega⟩ := by
    unfold rowCode codeK
    rw [codesV_apply, av3_apply, ← tile3_apply]
    generalize tile3 x0 x3 u k = g
    generalize invK _ = a
    pointwise
  rw [← e]
  generalize codesV facts96w 0x3DB504F3#32 (av3 x0 x3 u) (shapeCast S96x256 (tile3 x0 x3 u k) shapeCasts_S96x256_S96x256) bitsLt_fp8e4m3_f32 = g
  pointwise

/-- The stores of the codes, the last one first. -/
def pieces3 (x0 : Vec Ideal S2x480x1024 .bf16) (x3 : Vec Ideal S256x256 .bf16) : List (View.Piece (Elt Ideal) S2x480x1024 .fp8e4m3) :=
  List.ofFn fun k : Fin 40 => ⟨Rect.unit ![(til3 k.rev).val / 4, (grp3 k.rev).val * 96, (til3 k.rev).val % 4 * 256] ![1, 96, 256]
    (inb3 (grp3 k.rev) (til3 k.rev)), sc3 x0 x3 (grp3 k.rev) (til3 k.rev)⟩

/-- The stores of the scales. -/
def pieces3s (x0 : Vec Ideal S2x480x1024 .bf16) (x3 : Vec Ideal S256x256 .bf16) : List (View.Piece (Elt Ideal) S480x1 .f32) :=
  List.ofFn fun u : Fin 5 => ⟨Rect.unit ![u.rev.val * 96, 0] ![96, 1] (inb3s u.rev), scaleV (av3 x0 x3 u.rev)⟩

theorem pieces3_apply (x0 : Vec Ideal S2x480x1024 .bf16) (x3 : Vec Ideal S256x256 .bf16) (y : S2x480x1024.Idx) (r : Fin 480) (k' : Fin 2048)
    (hr : (y 1).val = r.val) (hk : (y 0).val * 1024 + (y 2).val = k'.val) :
    View.canon (Val := Elt Ideal) (e := .fp8e4m3) (pieces3 x0 x3) y = rowCode nTok (row3 x0 x3 r) k' := by
  unfold pieces3
  canon_tiles y h
  · have e : r = ⟨(grp3 k.rev).val * 96 + (y 1).val, by omega⟩ := Fin.ext (by simp only; omega)
    have e' : k' = ⟨(til3 k.rev).val * 256 + (y 2).val, by omega⟩ := Fin.ext (by simp only; omega)
    have ey : y = ix3 0 (y 1) (y 2) := by blk_ext
    rw [e, e']
    exact (congrArg _ ey).trans (sc3_apply x0 x3 _ _ (y 1) (y 2))
  · refine ⟨(⟨r.val / 96 * 8 + k'.val / 256, by omega⟩ : Fin 40).rev, fun a => ?_⟩
    rw [Fin.rev_rev]
    have e : (grp3 ⟨r.val / 96 * 8 + k'.val / 256, by omega⟩).val = r.val / 96 := by unfold grp3; simp only; omega
    have e' : (til3 ⟨r.val / 96 * 8 + k'.val / 256, by omega⟩).val = k'.val / 256 := by unfold til3; simp only; omega
    have hy : (y 2).val < 1024 := (y 2).isLt
    rw [e, e']
    match a with
    | ⟨0, _⟩ => exact ⟨by show k'.val / 256 / 4 ≤ (y 0).val; omega, by show (y 0).val < k'.val / 256 / 4 + 1; omega⟩
    | ⟨1, _⟩ => exact ⟨by show r.val / 96 * 96 ≤ (y 1).val; omega, by show (y 1).val < r.val / 96 * 96 + 96; omega⟩
    | ⟨2, _⟩ => exact ⟨by show k'.val / 256 % 4 * 256 ≤ (y 2).val; omega, by show (y 2).val < k'.val / 256 % 4 * 256 + 256; omega⟩

theorem pieces3s_apply (x0 : Vec Ideal S2x480x1024 .bf16) (x3 : Vec Ideal S256x256 .bf16) (y : S480x1.Idx) (r : Fin 480)
    (hr : (y 0).val = r.val) :
    View.canon (Val := Elt Ideal) (e := .f32) (pieces3s x0 x3) y = rowScale nTok (row3 x0 x3 r) := by
  unfold pieces3s
  canon_tiles y h
  · have e : r = ⟨k.rev.val * 96 + (y 0).val, by omega⟩ := Fin.ext (by simp only; omega)
    have ey : y = ix2 (y 0) 0 := by blk_ext
    rw [e]
    refine (scaleV_apply _ _).trans ?_
    unfold rowScale
    refine congrArg scaleK ?_
    exact (congrArg _ ey).trans (av3_apply x0 x3 k.rev (y 0))
  · refine ⟨(⟨r.val / 96, by omega⟩ : Fin 5).rev, fun a => ?_⟩
    rw [Fin.rev_rev]
    match a with
    | ⟨0, _⟩ => exact ⟨by show r.val / 96 * 96 ≤ (y 0).val; omega, by show (y 0).val < r.val / 96 * 96 + 96; omega⟩
    | ⟨1, _⟩ => exact ⟨Nat.zero_le _, by have h1 : (y 1).val < 1 := (y 1).isLt; show (y 1).val < 0 + 1; omega⟩

/-- The two batches' codes side by side. -/
def lhs3 (C0 C1 : Vec Ideal S1x480x1024 .fp8e4m3) : FVec Ideal S480x2048 .fp8e4m3 :=
  concatenate S480x2048 1 [⟨S480x1024, shapeCast (α := Ideal .fp8e4m3) S480x1024 C0 shapeCasts_S1x480x1024_S480x1024⟩,
    ⟨S480x1024, shapeCast (α := Ideal .fp8e4m3) S480x1024 C1 shapeCasts_S1x480x1024_S480x1024⟩] concatenates_S480x1024_S480x1024_S480x2048_d1

/-- The product tile `n`. -/
def out3 (L : FVec Ideal S480x2048 .fp8e4m3) (S : FVec Ideal S480x1 .f32) (x1 : Vec Ideal S2048x2304 .fp8e4m3) (x2 : Vec Ideal S1x2304 .f32)
    (n : Fin 9) : FVec Ideal S480x256 .f32 :=
  mulf (mulf
    (matmul (φ₁ := .fp8e4m3) (φ₂ := .fp8e4m3) dot_S480x2048_S2048x256_S480x256_1_0_0_1_n_n none L
      (shapeCast (α := Ideal .fp8e4m3) S2048x256
        (View.ld (Val := Elt Ideal) (e' := .fp8e4m3) x1 (Rect.unit ![0, n.val * 256] ![2048, 256] (inb3d n))) shapeCasts_S2048x256_S2048x256)
      (constant S480x256 .f32 0x00000000#32))
    (broadcastTo S480x256 (shapeCast (α := Ideal .f32) S1x256
      (View.ld (Val := Elt Ideal) (e' := .f32) x2 (Rect.unit ![0, n.val * 256] ![1, 256] (inb3e n))) shapeCasts_S1x256_S1x256) broadcasts_S1x256_S480x256))
    (broadcastTo S480x256 (shapeCast S480x1 S shapeCasts_S480x1_S480x1) broadcasts_S480x1_S480x256)

theorem out3_apply (L : FVec Ideal S480x2048 .fp8e4m3) (S : FVec Ideal S480x1 .f32) (x1 : Vec Ideal S2048x2304 .fp8e4m3) (x2 : Vec Ideal S1x2304 .f32)
    (n : Fin 9) (r : Fin 480) (q : Fin 256) :
    out3 L S x1 x2 n (ix2 r q) = (∑ k : Fin 2048, L (ix2 r k) * x1 (ix2 k ⟨n.val * 256 + q.val, by omega⟩))
      * x2 (ix2 0 ⟨n.val * 256 + q.val, by omega⟩) * S (ix2 r 0) := by
  unfold out3
  pointwise

theorem lhs3_apply (C0 C1 : Vec Ideal S1x480x1024 .fp8e4m3) (F : Fin 480 → Fin 2048 → EReal)
    (h0 : ∀ (r : Fin 480) (k : Fin 1024), C0 (ix3 0 r k) = F r ⟨k.val, by omega⟩)
    (h1 : ∀ (r : Fin 480) (k : Fin 1024), C1 (ix3 0 r k) = F r ⟨1024 + k.val, by omega⟩) (r : Fin 480) (k : Fin 2048) :
    lhs3 C0 C1 (ix2 r k) = F r k := by
  unfold lhs3
  pointwise
  split
  · exact h0 r ⟨k.val, _⟩
  · rename_i hk
    refine (h1 r ⟨k.val - 1024, _⟩).trans (congrArg (F r) (Fin.ext ?_))
    show 1024 + (k.val - 1024) = k.val
    omega

/-- The stores of the products. -/
def pieces3o (L : FVec Ideal S480x2048 .fp8e4m3) (S : FVec Ideal S480x1 .f32) (x1 : Vec Ideal S2048x2304 .fp8e4m3) (x2 : Vec Ideal S1x2304 .f32) :
    List (View.Piece (Elt Ideal) S480x2304 .f32) :=
  List.ofFn fun n : Fin 9 => ⟨Rect.unit ![0, n.rev.val * 256] ![480, 256] (inb3o n.rev), out3 L S x1 x2 n.rev⟩

theorem pieces3o_apply (L : FVec Ideal S480x2048 .fp8e4m3) (S : FVec Ideal S480x1 .f32) (x1 : Vec Ideal S2048x2304 .fp8e4m3)
    (x2 : Vec Ideal S1x2304 .f32) (y : S480x2304.Idx) (r : Fin 480) (j : Fin 2304) (hr : (y 0).val = r.val) (hj : (y 1).val = j.val) :
    View.canon (Val := Elt Ideal) (e := .f32) (pieces3o L S x1 x2) y
      = (∑ k : Fin 2048, L (ix2 r k) * x1 (ix2 k j)) * x2 (ix2 0 j) * S (ix2 r 0) := by
  unfold pieces3o
  canon_tiles y h
  · obtain rfl : r = y 0 := Fin.ext (by omega)
    have e : j = ⟨k.rev.val * 256 + (y 1).val, by omega⟩ := Fin.ext (by simp only; omega)
    rw [e]
    exact (congrArg _ (eq_ix2 y)).trans (out3_apply L S x1 x2 k.rev (y 0) (y 1))
  · refine ⟨(⟨j.val / 256, by omega⟩ : Fin 9).rev, fun a => ?_⟩
    rw [Fin.rev_rev]
    match a with
    | ⟨0, _⟩ => exact ⟨Nat.zero_le _, by show (y 0).val < 0 + 480; omega⟩
    | ⟨1, _⟩ => exact ⟨by show j.val / 256 * 256 ≤ (y 1).val; omega, by show (y 1).val < j.val / 256 * 256 + 256; omega⟩

end Cert.KernelIdeal.Halo
-- ==== Proof.DwRun.lean ====
/-
  The kernel's fourth call: the body of a block makes the stores of `Dw`, and the call's three result arrays.
-/
module

public import proofs.«01_k».proof.Proof.Dw

@[expose] public section

set_option maxRecDepth 16384

noncomputable section

namespace Cert.KernelIdeal.Halo

open Idealize.ShloMosaic Idealize.ShloMosaic.TcCoe Cert.KernelIdeal.Gen
open Idealize.SL Idealize.SL.Sem
open Cert.Halo

variable (V : (c : Dev nD) → (b : Ref sig .tc) → Buf (Elt Ideal) ((c : Thread nD τ).loc b))

theorem codes3 (c : Dev nD) (t : Fin cfg3.N) (y : S2x480x1024.Idx) :
    (outsAt3 (F := Ideal) V c t).2.1 y = View.canon (Val := Elt Ideal) (e := .fp8e4m3) (pieces3 (iblk3 V c 0 t) (iblk3 V c 3 t)) y := by
  unfold outsAt3
  frame_open
  simp (disch := decide) only [↓ View.readCov_skip, ↓ View.readCov_cons_toLoadRect, ↓ View.readCov_fill]
  frame_out
  generalize iblk3 V c 0 t = x0
  generalize iblk3 V c 3 t = x3
  sl_kernel_rfl

theorem scale3 (c : Dev nD) (t : Fin cfg3.N) (y : S480x1.Idx) :
    (outsAt3 (F := Ideal) V c t).2.2 y = View.canon (Val := Elt Ideal) (e := .f32) (pieces3s (iblk3 V c 0 t) (iblk3 V c 3 t)) y := by
  unfold outsAt3
  frame_open
  simp (disch := decide) only [↓ View.readCov_skip, ↓ View.readCov_cons_toLoadRect, ↓ View.readCov_fill]
  frame_out
  generalize iblk3 V c 0 t = x0
  generalize iblk3 V c 3 t = x3
  sl_kernel_rfl

theorem inb3b (b : Fin 2) : ∀ a, ![b.val, 0, 0] a + ![1, 480, 1024] a ≤ S2x480x1024.size a := by revert b; decide

/-- The block's codes of batch `b` read back; the last four stores are of batch 1, so batch 0 reads the others. -/
def back3 (t : Fin cfg3.N) (x0 : Vec Ideal S2x480x1024 .bf16) (x3 : Vec Ideal S256x256 .bf16) (n : ℕ) (b : Fin 2) : Vec Ideal S1x480x1024 .fp8e4m3 :=
  View.readCov (Val := Elt Ideal) (s := S2x480x1024) (e := .fp8e4m3) (ms3_5 t).view ((pieces3 x0 x3).drop n)
    (Rect.unit (s := S2x480x1024) ![b.val, 0, 0] ![1, 480, 1024] (inb3b b)).toLoadRect

theorem back3_drop (t : Fin cfg3.N) (x0 : Vec Ideal S2x480x1024 .bf16) (x3 : Vec Ideal S256x256 .bf16) :
    back3 t x0 x3 4 0 = back3 t x0 x3 0 0 := by
  unfold back3
  generalize hn : (ms3_5 t).view = v
  unfold pieces3
  rw [List.ofFn_succ, List.ofFn_succ, List.ofFn_succ, List.ofFn_succ]
  exact (((View.readCov_skip v _ _ _ _ (by decide +kernel)).trans (View.readCov_skip v _ _ _ _ (by decide +kernel))).trans
    ((View.readCov_skip v _ _ _ _ (by decide +kernel)).trans (View.readCov_skip v _ _ _ _ (by decide +kernel)))).symm

/-- The block's scales read back. -/
def back3s (t : Fin cfg3.N) (x0 : Vec Ideal S2x480x1024 .bf16) (x3 : Vec Ideal S256x256 .bf16) : FVec Ideal S480x1 .f32 :=
  View.readCov (Val := Elt Ideal) (s := S480x1) (e := .f32) (ms3_6 t).view (pieces3s x0 x3)
    (Rect.unit (s := S480x1) ![0, 0] ![480, 1] inb_S480x1_S480x1_0_0).toLoadRect

theorem back3_apply (t : Fin cfg3.N) (x0 : Vec Ideal S2x480x1024 .bf16) (x3 : Vec Ideal S256x256 .bf16) (b : Fin 2) (r : Fin 480) (k : Fin 1024) :
    back3 t x0 x3 0 b (ix3 0 r k) = rowCode nTok (row3 x0 x3 r) ⟨b.val * 1024 + k.val, by omega⟩ := by
  unfold back3
  rw [View.readCov_eq_canon']
  refine pieces3_apply x0 x3 _ _ _ ?_ ?_
  · show 0 + 1 * r.val = _
    omega
  · show (b.val + 1 * 0) * 1024 + (0 + 1 * k.val) = b.val * 1024 + k.val
    omega

theorem back3s_apply (t : Fin cfg3.N) (x0 : Vec Ideal S2x480x1024 .bf16) (x3 : Vec Ideal S256x256 .bf16) (r : Fin 480) :
    back3s t x0 x3 (ix2 r 0) = rowScale nTok (row3 x0 x3 r) := by
  unfold back3s
  rw [View.readCov_eq_canon']
  refine pieces3s_apply x0 x3 _ _ ?_
  show 0 + 1 * r.val = _
  omega

theorem left3 (t : Fin cfg3.N) (x0 : Vec Ideal S2x480x1024 .bf16) (x3 : Vec Ideal S256x256 .bf16) (r : Fin 480) (k : Fin 2048) :
    lhs3 (back3 t x0 x3 4 0) (back3 t x0 x3 0 1) (ix2 r k) = rowCode nTok (row3 x0 x3 r) k := by
  refine lhs3_apply _ _ (fun r k => rowCode nTok (row3 x0 x3 r) k) ?_ ?_ r k
  · intro r k
    rw [back3_drop, back3_apply]
    exact congrArg _ (Fin.ext (by show 0 * 1024 + k.val = k.val; omega))
  · intro r k
    rw [back3_apply]
    exact congrArg _ (Fin.ext (by show 1 * 1024 + k.val = 1024 + k.val; omega))

theorem prod3 (c : Dev nD) (t : Fin cfg3.N) (y : S480x2304.Idx) :
    (outsAt3 (F := Ideal) V c t).1 y = View.canon (Val := Elt Ideal) (e := .f32)
      (pieces3o (lhs3 (back3 t (iblk3 V c 0 t) (iblk3 V c 3 t) 4 0) (back3 t (iblk3 V c 0 t) (iblk3 V c 3 t) 0 1))
        (back3s t (iblk3 V c 0 t) (iblk3 V c 3 t)) (iblk3 V c 1 t) (iblk3 V c 2 t)) y := by
  unfold outsAt3
  frame_open
  simp (disch := decide) only [↓ View.readCov_skip, ↓ View.readCov_cons_toLoadRect, ↓ View.readCov_fill]
  frame_out
  generalize iblk3 V c 0 t = x0
  generalize iblk3 V c 1 t = x1
  generalize iblk3 V c 2 t = x2
  generalize iblk3 V c 3 t = x3
  sl_kernel_rfl

theorem idx3 : ∀ t : Fin cfg3.N, win3_0.index t = ![0, t.val, 0] ∧ win3_1.index t = ![0, 0] ∧ win3_2.index t = ![0, 0]
    ∧ win3_3.index t = ![0, 0] ∧ win3_4.index t = ![t.val, 0] ∧ win3_5.index t = ![0, t.val, 0] ∧ win3_6.index t = ![t.val, 0] :=
  (by decide +kernel : ∀ t : Fin grid3.N, _)

/-- Row `i` of the transposed inputs, over all tokens. -/
def rowX (c : Dev nD) (i : Fin 2880) (k : Fin 2048) : EReal :=
  V c main_v0 (ix3 (⟨k.val / 1024, by omega⟩ : Fin 2) i (⟨k.val % 1024, by omega⟩ : Fin 1024))

theorem row3_arr (c : Dev nD) (t : Fin cfg3.N) (r : Fin 480) (i : Fin 2880) (hi : i.val = t.val * 480 + r.val) :
    row3 (iblk3 V c 0 t) (iblk3 V c 3 t) r = had d2048 (rowX V c i) fun p q => V c main_cst_0 (ix2 p q) := by
  unfold row3
  congr 1
  · funext j
    unfold flat3 rowX
    blk_ext [iblk3, idx3 t]
  · funext p q
    blk_ext [iblk3, idx3 t]

theorem arr3_codes (c : Dev nD) :
    (dat3 V c).arrAt 5 cfg3.N = fun i : S2x2880x1024.Idx =>
      rowCode nTok (had d2048 (rowX V c (i 1)) fun p q => V c main_cst_0 (ix2 p q))
        ⟨(i 0).val * 1024 + (i 2).val, by have h0 : (i 0).val < 2 := (i 0).isLt; have h2 : (i 2).val < 1024 := (i 2).isLt; omega⟩ := by
  refine (dat3 V c).arrAt_eq_of_covers 5 _ (by decide +kernel) fun t hf y => ?_
  blk_simp
  rw [after3_5]
  have h0 : (y 0).val < 2 := (y 0).isLt
  have h2 : (y 2).val < 1024 := (y 2).isLt
  refine (codes3 V c t y).trans ((pieces3_apply _ _ y (y 1) ⟨(y 0).val * 1024 + (y 2).val, by omega⟩ rfl rfl).trans
    (congrArg₂ (rowCode nTok) ?_ (Fin.ext ?_)))
  · exact row3_arr V c t _ _ (by blk_simp [idx3 t])
  · blk_simp [idx3 t]

theorem arr3_scale (c : Dev nD) :
    (dat3 V c).arrAt 6 cfg3.N = fun i : S2880x1.Idx =>
      rowScale nTok (had d2048 (rowX V c (i 0)) fun p q => V c main_cst_0 (ix2 p q)) := by
  refine (dat3 V c).arrAt_eq_of_covers 6 _ (by decide +kernel) fun t hf y => ?_
  blk_simp
  rw [after3_6]
  refine (scale3 V c t y).trans ((pieces3s_apply _ _ y (y 0) rfl).trans (congrArg (rowScale nTok) ?_))
  exact row3_arr V c t _ _ (by blk_simp [idx3 t])

theorem prod3_arr (c : Dev nD) (t : Fin cfg3.N) (y : S480x2304.Idx) (g : Fin 2880) (j : Fin 2304)
    (hg : g.val = t.val * 480 + (y 0).val) (hj : (y 1).val = j.val) :
    (outsAt3 (F := Ideal) V c t).1 y
      = (∑ k : Fin 2048, rowCode nTok (had d2048 (rowX V c g) fun p q => V c main_cst_0 (ix2 p q)) k * (V c main_v6_0 (ix2 k j) : EReal))
        * (V c main_v6_1 (ix2 0 j) : EReal) * rowScale nTok (had d2048 (rowX V c g) fun p q => V c main_cst_0 (ix2 p q)) := by
  rw [← row3_arr V c t (y 0) g hg]
  refine (prod3 V c t y).trans ((pieces3o_apply _ _ _ _ y (y 0) j rfl hj).trans ?_)
  refine congrArg₂ (· * ·) (congrArg₂ (· * ·) (Finset.sum_congr rfl fun k _ => congrArg₂ (· * ·) (left3 t _ _ _ _) ?_) ?_)
    (back3s_apply t _ _ _)
  · blk_ext [iblk3, idx3 t]
  · blk_ext [iblk3, idx3 t]

theorem arr3_prod (c : Dev nD) :
    (dat3 V c).arrAt 4 cfg3.N = fun i : S2880x2304.Idx =>
      (∑ k : Fin 2048, rowCode nTok (had d2048 (rowX V c (i 0)) fun p q => V c main_cst_0 (ix2 p q)) k * (V c main_v6_0 (ix2 k (i 1)) : EReal))
        * (V c main_v6_1 (ix2 0 (i 1)) : EReal) * rowScale nTok (had d2048 (rowX V c (i 0)) fun p q => V c main_cst_0 (ix2 p q)) := by
  refine (dat3 V c).arrAt_eq_of_covers 4 _ (by decide +kernel) fun t hf y => ?_
  blk_simp
  rw [after3_4]
  exact prod3_arr V c t y _ _ (by blk_simp [idx3 t]) (by blk_simp [idx3 t])

end Cert.KernelIdeal.Halo
-- ==== Proof.Dyo.lean ====
/-
  The kernel's first call, one block: 256 rows of the output gradient, transformed over their columns and quantised by rows.
-/
module

public import proofs.«01_k».proof.Proof.Gen.KernelIdeal.Frame
public import Idealize.ShloMosaic.Lib.Pipeline.ValueKit
public import Idealize.ShloMosaic.Lib.Pipeline.ReadBack
public import proofs.«01_k».proof.Proof.Spec

@[expose] public section

set_option maxRecDepth 16384

noncomputable section

namespace Cert.KernelIdeal.Halo

open Idealize.ShloMosaic Idealize.ShloMosaic.TcCoe Cert.KernelIdeal.Gen
open Idealize.SL Idealize.SL.Sem
open Cert.Halo

variable (V : (c : Dev nD) → (b : Ref sig .tc) → Buf (Elt Ideal) ((c : Thread nD τ).loc b))

theorem facts256 : RowFacts 256 := ⟨by decide, by decide, by decide, by decide, by decide, by decide⟩

theorem inb0 (k : Fin 9) : ∀ a, ![0, k.val * 256] a + ![256, 256] a ≤ S256x2304.size a := by revert k; decide

/-- Tile `k` of the rows times the matrix. -/
def tile0 (x0 : Vec Ideal S256x2304 .bf16) (x1 : Vec Ideal S256x256 .bf16) (k : Fin 9) : FVec Ideal S256x256 .f32 :=
  matmul (φ₁ := .bf16) (φ₂ := .bf16) dot_S256x256_S256x256_S256x256_1_0_0_1_n_n none
    (shapeCast (α := Ideal .bf16) S256x256 (View.ld (Val := Elt Ideal) (e' := .bf16) x0 (Rect.unit ![0, k.val * 256] ![256, 256] (inb0 k)))
      shapeCasts_S256x256_S256x256)
    x1 (constant S256x256 .f32 0x00000000#32)

/-- The rows' amax over 448. -/
def av0 (x0 : Vec Ideal S256x2304 .bf16) (x1 : Vec Ideal S256x256 .bf16) : FVec Ideal (Sh 256 1) .f32 :=
  av facts256 0x3D800000#32 (tile0 x0 x1 0) (List.ofFn fun k : Fin 8 => tile0 x0 x1 k.succ)

/-- Tile `k`'s codes. -/
def sc0 (x0 : Vec Ideal S256x2304 .bf16) (x1 : Vec Ideal S256x256 .bf16) (k : Fin 9) : FVec Ideal S256x256 .fp8e4m3 :=
  codesV facts256 0x3D800000#32 (av0 x0 x1) (shapeCast S256x256 (tile0 x0 x1 k) shapeCasts_S256x256_S256x256) bitsLt_fp8e4m3_f32

/-- Row `r` transformed. -/
def row0 (x0 : Vec Ideal S256x2304 .bf16) (x1 : Vec Ideal S256x256 .bf16) (r : Fin 256) : Fin 2304 → EReal :=
  had d2304 (fun j => x0 (ix2 r j)) fun p q => x1 (ix2 p q)

theorem tile0_apply (x0 : Vec Ideal S256x2304 .bf16) (x1 : Vec Ideal S256x256 .bf16) (k : Fin 9) (r q : Fin 256) :
    tile0 x0 x1 k (ix2 r q) = row0 x0 x1 r ⟨k.val * 256 + q.val, by omega⟩ := by
  unfold tile0 row0
  rw [had_tile]
  pointwise

theorem av0_apply (x0 : Vec Ideal S256x2304 .bf16) (x1 : Vec Ideal S256x256 .bf16) (r : Fin 256) :
    av0 x0 x1 (ix2 r 0) = (Finset.univ.sup fun i => ab (row0 x0 x1 r i)) * nOut * c448 :=
  av_apply facts256 0x3D800000#32 (n := 8) (tile0 x0 x1) r (row0 x0 x1 r) fun k q => tile0_apply x0 x1 k r q

theorem sc0_apply (x0 : Vec Ideal S256x2304 .bf16) (x1 : Vec Ideal S256x256 .bf16) (k : Fin 9) (r q : Fin 256) :
    sc0 x0 x1 k (ix2 r q) = rowCode nOut (row0 x0 x1 r) ⟨k.val * 256 + q.val, by omega⟩ := by
  unfold sc0 rowCode codeK
  rw [codesV_apply, av0_apply, ← tile0_apply]
  generalize tile0 x0 x1 k = g
  generalize invK _ = a
  pointwise

theorem codes0 (c : Dev nD) (t : Fin cfg0.N) (y : S256x2304.Idx) (r : Fin 256) (j : Fin 2304) (hr : (y 0).val = r.val) (hj : (y 1).val = j.val) :
    (outsAt0 (F := Ideal) V c t).1 y = rowCode nOut (row0 (iblk0 V c 0 t) (iblk0 V c 1 t) r) j := by
  unfold outsAt0
  frame_open
  simp (disch := decide) only [↓ View.readCov_skip, ↓ View.readCov_cons_toLoadRect, ↓ View.readCov_fill]
  frame_out
  generalize iblk0 V c 0 t = x0
  generalize iblk0 V c 1 t = x1
  refine Eq.trans (b := View.canon (Val := Elt Ideal) (e := .fp8e4m3) (List.ofFn fun k : Fin 9 =>
    (⟨Rect.unit ![0, k.rev.val * 256] ![256, 256] (inb0 k.rev), sc0 x0 x1 k.rev⟩ : View.Piece (Elt Ideal) S256x2304 .fp8e4m3)) y)
    (by sl_kernel_rfl) ?_
  canon_tiles y h
  · obtain rfl : r = y 0 := Fin.ext (by omega)
    have e : j = ⟨k.rev.val * 256 + (y 1).val, by omega⟩ := Fin.ext (by simp only; omega)
    rw [e]
    exact (congrArg _ (eq_ix2 y)).trans (sc0_apply x0 x1 k.rev (y 0) (y 1))
  · refine ⟨(⟨j.val / 256, by omega⟩ : Fin 9).rev, fun a => ?_⟩
    rw [Fin.rev_rev]
    match a with
    | ⟨0, _⟩ => exact ⟨Nat.zero_le _, by show (y 0).val < 0 + 256; omega⟩
    | ⟨1, _⟩ => exact ⟨by show j.val / 256 * 256 ≤ (y 1).val; omega, by show (y 1).val < j.val / 256 * 256 + 256; omega⟩

theorem scale0 (c : Dev nD) (t : Fin cfg0.N) (y : S256x1.Idx) (r : Fin 256) (hr : (y 0).val = r.val) :
    (outsAt0 (F := Ideal) V c t).2 y = rowScale nOut (row0 (iblk0 V c 0 t) (iblk0 V c 1 t) r) := by
  unfold outsAt0
  frame_open
  simp (disch := decide) only [↓ View.readCov_skip, ↓ View.readCov_cons_toLoadRect, ↓ View.readCov_fill]
  frame_out
  generalize iblk0 V c 0 t = x0
  generalize iblk0 V c 1 t = x1
  refine Eq.trans (b := scaleV (av0 x0 x1) y) (by sl_kernel_rfl) ?_
  rw [scaleV_apply, rowScale, ← av0_apply]
  obtain rfl : r = y 0 := Fin.ext (by omega)
  have e : y = ix2 (y 0) 0 := by blk_ext
  exact congrArg (fun y => scaleK (av0 x0 x1 y)) e

theorem idx0 : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- A block's row is the array's row. -/
theorem row0_arr (c : Dev nD) (t : Fin cfg0.N) (r : Fin 256) (i : Fin 2048) (hi : i.val = t.val * 256 + r.val) :
    row0 (iblk0 V c 0 t) (iblk0 V c 1 t) r = had d2304 (fun j => V c main_v2 (ix2 i j)) fun p q => V c main_cst (ix2 p q) := by
  unfold row0
  congr 1
  · funext j
    blk_ext [iblk0, idx0 t]
  · funext p q
    blk_ext [iblk0, idx0 t]

/-- The codes of the output gradient, all rows. -/
theorem arr0_codes (c : Dev nD) :
    (dat0 V c).arrAt 2 cfg0.N = fun i : S2048x2304.Idx =>
      rowCode nOut (had d2304 (fun j => V c main_v2 (ix2 (i 0) j)) fun p q => V c main_cst (ix2 p q)) (i 1) := by
  refine (dat0 V c).arrAt_eq_of_covers 2 _ (by decide +kernel) fun t hf y => ?_
  blk_simp
  rw [after0_2]
  refine (codes0 V c t y (y 0) (y 1) rfl rfl).trans (congrArg₂ (rowCode nOut) ?_ (Fin.ext ?_))
  · exact row0_arr V c t _ _ (by blk_simp [idx0 t])
  · blk_simp [idx0 t]

/-- The scales of the output gradient, all rows. -/
theorem arr0_scale (c : Dev nD) :
    (dat0 V c).arrAt 3 cfg0.N = fun i : S2048x1.Idx =>
      rowScale nOut (had d2304 (fun j => V c main_v2 (ix2 (i 0) j)) fun p q => V c main_cst (ix2 p q)) := by
  refine (dat0 V c).arrAt_eq_of_covers 3 _ (by decide +kernel) fun t hf y => ?_
  blk_simp
  rw [after0_3]
  refine (scale0 V c t y (y 0) rfl).trans (congrArg (rowScale nOut) ?_)
  exact row0_arr V c t _ _ (by blk_simp [idx0 t])

end Cert.KernelIdeal.Halo
-- ==== Proof.Dyt.lean ====
/-
  The kernel's third call, one block: 256 columns of the output gradient, transformed over the tokens and quantised by columns.
-/
module

public import proofs.«01_k».proof.Proof.Gen.KernelIdeal.Frame
public import Idealize.ShloMosaic.Lib.Pipeline.ValueKit
public import Idealize.ShloMosaic.Lib.Pipeline.ReadBack
public import proofs.«01_k».proof.Proof.Spec

@[expose] public section

set_option maxRecDepth 16384

noncomputable section

namespace Cert.KernelIdeal.Halo

open Idealize.ShloMosaic Idealize.ShloMosaic.TcCoe Cert.KernelIdeal.Gen
open Idealize.SL Idealize.SL.Sem
open Cert.Halo

variable (V : (c : Dev nD) → (b : Ref sig .tc) → Buf (Elt Ideal) ((c : Thread nD τ).loc b))

theorem inb2 (k : Fin 8) : ∀ a, ![k.val * 256, 0] a + ![256, 256] a ≤ S2048x256.size a := by revert k; decide

/-- The matrix times row tile `k` of the columns. -/
def tile2 (x0 : Vec Ideal S2048x256 .bf16) (x1 : Vec Ideal S256x256 .bf16) (k : Fin 8) : FVec Ideal S256x256 .f32 :=
  matmul (φ₁ := .bf16) (φ₂ := .bf16) dot_S256x256_S256x256_S256x256_1_0_0_1_n_n none x1
    (shapeCast (α := Ideal .bf16) S256x256 (View.ld (Val := Elt Ideal) (e' := .bf16) x0 (Rect.unit ![k.val * 256, 0] ![256, 256] (inb2 k)))
      shapeCasts_S256x256_S256x256)
    (constant S256x256 .f32 0x00000000#32)

/-- Column `q` transformed. -/
def col2 (x0 : Vec Ideal S2048x256 .bf16) (x1 : Vec Ideal S256x256 .bf16) (q : Fin 256) : Fin 2048 → EReal :=
  had d2048 (fun i => x0 (ix2 i q)) fun p r => x1 (ix2 r p)

theorem tile2_apply (x0 : Vec Ideal S2048x256 .bf16) (x1 : Vec Ideal S256x256 .bf16) (k : Fin 8) (r q : Fin 256) :
    tile2 x0 x1 k (ix2 r q) = col2 x0 x1 q ⟨k.val * 256 + r.val, by omega⟩ := by
  unfold tile2 col2
  rw [had_tile]
  pointwise
  all_goals exact Finset.sum_congr rfl fun p _ => mul_comm _ _

/-- A tile's amax by columns. -/
def cmax (g : FVec Ideal S256x256 .f32) : FVec Ideal S1x256 .f32 :=
  shapeCast S1x256 (multiReduction .maximumf [0] S256 (absf g) 0xFF800000#32 reduces_S256x256_S256 (.inl rfl) rfl) shapeCasts_S256_S1x256

/-- The running maximum over the tiles. -/
def cmaxV (g : FVec Ideal S256x256 .f32) (gs : List (FVec Ideal S256x256 .f32)) : FVec Ideal S1x256 .f32 :=
  gs.foldl (fun m g => maximumf m (cmax g)) (cmax g)

/-- The columns' amax over 448. -/
def av2 (x0 : Vec Ideal S2048x256 .bf16) (x1 : Vec Ideal S256x256 .bf16) : FVec Ideal S1x256 .f32 :=
  mulf (mulf (cmaxV (tile2 x0 x1 0) (List.ofFn fun k : Fin 7 => tile2 x0 x1 k.succ))
    (broadcast S1x256 (Scalar.ofBits .f32 0x3DB504F3#32))) (broadcast S1x256 (Scalar.ofBits .f32 0x3B124925#32))

/-- The codes, all rows at once. -/
def sc2 (v : FVec Ideal S1x256 .f32) (g : FVec Ideal S2048x256 .f32) : FVec Ideal S2048x256 .fp8e4m3 :=
  truncf .fp8e4m3 (minimumf (broadcast S2048x256 (Scalar.ofBits .f32 0x43E00000#32)) (maximumf
    (broadcast S2048x256 (Scalar.ofBits .f32 0xC3E00000#32))
    (mulf g (broadcastTo S2048x256 (mulf (invV v) (broadcast S1x256 (Scalar.ofBits .f32 0x3DB504F3#32)))
      broadcasts_S1x256_S2048x256)))) bitsLt_fp8e4m3_f32

theorem cmax_apply (g : FVec Ideal S256x256 .f32) (q : Fin 256) :
    cmax g (ix2 0 q) = Finset.univ.sup fun r : Fin 256 => ab (g (ix2 r q)) := by
  unfold cmax
  pointwise [ofBits_neg_inf, ab]
  rfl

theorem cmaxV_le (g : FVec Ideal S256x256 .f32) (gs : List (FVec Ideal S256x256 .f32)) (q : Fin 256) (b : EReal) :
    cmaxV g gs (ix2 0 q) ≤ b ↔ ∀ g' ∈ g :: gs, cmax g' (ix2 0 q) ≤ b := by
  unfold cmaxV
  suffices H : ∀ m : FVec Ideal S1x256 .f32, gs.foldl (fun m g => maximumf m (cmax g)) m (ix2 0 q) ≤ b
      ↔ m (ix2 0 q) ≤ b ∧ ∀ g' ∈ gs, cmax g' (ix2 0 q) ≤ b by
    rw [H]; simp
  induction gs with
  | nil => intro m; simp
  | cons a gs ih =>
    intro m
    rw [List.foldl_cons, ih]
    have : maximumf m (cmax a) (ix2 0 q) = max (m (ix2 0 q)) (cmax a (ix2 0 q)) := rfl
    rw [this, max_le_iff, List.forall_mem_cons, and_assoc]

theorem av2_apply (x0 : Vec Ideal S2048x256 .bf16) (x1 : Vec Ideal S256x256 .bf16) (q : Fin 256) :
    av2 x0 x1 (ix2 0 q) = (Finset.univ.sup fun i => ab (col2 x0 x1 q i)) * nTok * c448 := by
  have hs : cmaxV (tile2 x0 x1 0) (List.ofFn fun k : Fin 7 => tile2 x0 x1 k.succ) (ix2 0 q)
      = Finset.univ.sup fun i => ab (col2 x0 x1 q i) := by
    have hl : (tile2 x0 x1 0 :: List.ofFn fun k : Fin 7 => tile2 x0 x1 k.succ) = List.ofFn (tile2 x0 x1) :=
      (List.ofFn_succ (f := tile2 x0 x1)).symm
    refine eq_of_forall_ge_iff fun b => ?_
    simp only [Finset.sup_le_iff, Finset.mem_univ, true_implies, cmaxV_le, hl, List.forall_mem_ofFn_iff, cmax_apply, tile2_apply]
    constructor
    · intro H i
      have := H ⟨i.val / 256, by omega⟩ ⟨i.val % 256, by omega⟩
      have e : (⟨i.val / 256 * 256 + i.val % 256, by omega⟩ : Fin 2048) = i := Fin.ext (by simp only; omega)
      simpa only [e] using this
    · intro H k r
      exact H _
  rw [← hs]
  rfl

theorem bc2_apply (x : FVec Ideal S1x256 .f32) (i : Fin 2048) (q : Fin 256) :
    broadcastTo S2048x256 x broadcasts_S1x256_S2048x256 (ix2 i q) = x (ix2 0 q) := by
  pointwise

theorem sc2_apply (v : FVec Ideal S1x256 .f32) (g : FVec Ideal S2048x256 .f32) (i : Fin 2048) (q : Fin 256) :
    sc2 v g (ix2 i q) = clip (g (ix2 i q) * (invK (v (ix2 0 q)) * nTok)) := by
  unfold sc2
  have e := bc2_apply (mulf (invV v) (broadcast S1x256 (Scalar.ofBits .f32 0x3DB504F3#32))) i q
  generalize broadcastTo S2048x256 (mulf (invV v) (broadcast S1x256 (Scalar.ofBits .f32 0x3DB504F3#32))) broadcasts_S1x256_S2048x256 = B at e ⊢
  pointwise [clip]
  rw [e]
  pointwise [invV_apply]

/-- The tiles as stored in the scratch buffer. -/
def pieces2 (x0 : Vec Ideal S2048x256 .bf16) (x1 : Vec Ideal S256x256 .bf16) : List (View.Piece (Elt Ideal) S2048x256 .f32) :=
  List.ofFn fun k : Fin 8 => ⟨Rect.unit ![k.rev.val * 256, 0] ![256, 256] (inb2 k.rev),
    shapeCast S256x256 (tile2 x0 x1 k.rev) shapeCasts_S256x256_S256x256⟩

theorem pieces2_apply (x0 : Vec Ideal S2048x256 .bf16) (x1 : Vec Ideal S256x256 .bf16) (y : S2048x256.Idx) (i : Fin 2048) (q : Fin 256)
    (hi : (y 0).val = i.val) (hq : (y 1).val = q.val) :
    View.canon (Val := Elt Ideal) (e := .f32) (pieces2 x0 x1) y = col2 x0 x1 q i := by
  unfold pieces2
  canon_tiles y h
  · obtain rfl : q = y 1 := Fin.ext (by omega)
    have e : i = ⟨k.rev.val * 256 + (y 0).val, by omega⟩ := Fin.ext (by simp only; omega)
    rw [e]
    refine Eq.trans ?_ (tile2_apply x0 x1 k.rev (y 0) (y 1))
    generalize tile2 x0 x1 k.rev = g
    refine (congrArg _ (eq_ix2 y)).trans ?_
    pointwise
  · refine ⟨(⟨i.val / 256, by omega⟩ : Fin 8).rev, fun a => ?_⟩
    rw [Fin.rev_rev]
    match a with
    | ⟨0, _⟩ => exact ⟨by show i.val / 256 * 256 ≤ (y 0).val; omega, by show (y 0).val < i.val / 256 * 256 + 256; omega⟩
    | ⟨1, _⟩ => exact ⟨Nat.zero_le _, by show (y 1).val < 0 + 256; omega⟩

/-- The whole scratch buffer read back. -/
def back2 (x0 : Vec Ideal S2048x256 .bf16) (x1 : Vec Ideal S256x256 .bf16) : FVec Ideal S2048x256 .f32 :=
  View.readCov (Val := Elt Ideal) (s := S2048x256) (e := .f32) (View.whole cc2_scratch0) (pieces2 x0 x1)
    (Rect.unit (s := S2048x256) ![0, 0] ![2048, 256] inb_S2048x256_S2048x256_0_0).toLoadRect

theorem back2_apply (x0 : Vec Ideal S2048x256 .bf16) (x1 : Vec Ideal S256x256 .bf16) (i : Fin 2048) (q : Fin 256) :
    back2 x0 x1 (ix2 i q) = col2 x0 x1 q i := by
  unfold back2
  rw [View.readCov_eq_canon']
  refine pieces2_apply x0 x1 _ _ _ ?_ ?_
  · show 0 + 1 * i.val = _
    omega
  · show 0 + 1 * q.val = _
    omega

theorem sc2_full (x0 : Vec Ideal S2048x256 .bf16) (x1 : Vec Ideal S256x256 .bf16) (i : Fin 2048) (q : Fin 256) :
    sc2 (av2 x0 x1) (back2 x0 x1) (ix2 i q) = rowCode nTok (col2 x0 x1 q) i := by
  unfold rowCode codeK
  rw [sc2_apply, av2_apply, back2_apply]

theorem codes2 (c : Dev nD) (t : Fin cfg2.N) (y : S2048x256.Idx) (i : Fin 2048) (q : Fin 256) (hi : (y 0).val = i.val) (hq : (y 1).val = q.val) :
    (outsAt2 (F := Ideal) V c t).1 y = rowCode nTok (col2 (iblk2 V c 0 t) (iblk2 V c 1 t) q) i := by
  unfold outsAt2
  frame_open
  simp (disch := decide) only [↓ View.readCov_skip, ↓ View.readCov_cons_toLoadRect, ↓ View.readCov_fill]
  frame_out
  generalize iblk2 V c 0 t = x0
  generalize iblk2 V c 1 t = x1
  refine Eq.trans (b := sc2 (av2 x0 x1) (back2 x0 x1) y) (by sl_kernel_rfl) ?_
  obtain rfl : i = y 0 := Fin.ext (by omega)
  obtain rfl : q = y 1 := Fin.ext (by omega)
  exact (congrArg _ (eq_ix2 y)).trans (sc2_full x0 x1 _ _)

theorem scale2 (c : Dev nD) (t : Fin cfg2.N) (y : S1x256.Idx) (q : Fin 256) (hq : (y 1).val = q.val) :
    (outsAt2 (F := Ideal) V c t).2 y = rowScale nTok (col2 (iblk2 V c 0 t) (iblk2 V c 1 t) q) := by
  unfold outsAt2
  frame_open
  simp (disch := decide) only [↓ View.readCov_skip, ↓ View.readCov_cons_toLoadRect, ↓ View.readCov_fill]
  frame_out
  generalize iblk2 V c 0 t = x0
  generalize iblk2 V c 1 t = x1
  refine Eq.trans (b := scaleV (av2 x0 x1) y) (by sl_kernel_rfl) ?_
  rw [scaleV_apply, rowScale, ← av2_apply]
  obtain rfl : q = y 1 := Fin.ext (by omega)
  have e : y = ix2 0 (y 1) := by blk_ext
  exact congrArg (fun y => scaleK (av2 x0 x1 y)) e

theorem idx2 : ∀ t : Fin cfg2.N, win2_0.index t = ![0, t.val] ∧ win2_1.index t = ![0, 0] ∧ win2_2.index t = ![0, t.val]
    ∧ win2_3.index t = ![0, t.val] := (by decide +kernel : ∀ t : Fin grid2.N, _)

/-- A block's column is the array's column. -/
theorem col2_arr (c : Dev nD) (t : Fin cfg2.N) (q : Fin 256) (j : Fin 2304) (hj : j.val = t.val * 256 + q.val) :
    col2 (iblk2 V c 0 t) (iblk2 V c 1 t) q = had d2048 (fun i => V c main_v2 (ix2 i j)) fun p r => V c main_cst_0 (ix2 r p) := by
  unfold col2
  congr 1
  · funext i
    blk_ext [iblk2, idx2 t]
  · funext p r
    blk_ext [iblk2, idx2 t]

/-- The codes by columns, all of them. -/
theorem arr2_codes (c : Dev nD) :
    (dat2 V c).arrAt 2 cfg2.N = fun i : S2048x2304.Idx =>
      rowCode nTok (had d2048 (fun k => V c main_v2 (ix2 k (i 1))) fun p r => V c main_cst_0 (ix2 r p)) (i 0) := by
  refine (dat2 V c).arrAt_eq_of_covers 2 _ (by decide +kernel) fun t hf y => ?_
  blk_simp
  rw [after2_2]
  refine (codes2 V c t y (y 0) (y 1) rfl rfl).trans (congrArg₂ (rowCode nTok) ?_ (Fin.ext ?_))
  · exact col2_arr V c t _ _ (by blk_simp [idx2 t])
  · blk_simp [idx2 t]

/-- The scales by columns, all of them. -/
theorem arr2_scale (c : Dev nD) :
    (dat2 V c).arrAt 3 cfg2.N = fun i : S1x2304.Idx =>
      rowScale nTok (had d2048 (fun k => V c main_v2 (ix2 k (i 1))) fun p r => V c main_cst_0 (ix2 r p)) := by
  refine (dat2 V c).arrAt_eq_of_covers 3 _ (by decide +kernel) fun t hf y => ?_
  blk_simp
  rw [after2_3]
  refine (scale2 V c t y (y 1) rfl).trans (congrArg (rowScale nTok) ?_)
  exact col2_arr V c t _ _ (by blk_simp [idx2 t])

end Cert.KernelIdeal.Halo
-- ==== Proof.KVal.lean ====
/-
  The kernel's ten results as functions of its three arguments: the fold through @main read at the results.
-/
module

public import proofs.«01_k».proof.Proof.DxRun
public import proofs.«01_k».proof.Proof.DwRun
public import proofs.«01_k».proof.Proof.Dyo
public import proofs.«01_k».proof.Proof.Dyt
public import Idealize.ShloMosaic.Lib.StableHlo.ReadAt

@[expose] public section

set_option maxRecDepth 16384

noncomputable section

namespace Cert.KernelIdeal.Halo

open Idealize.ShloMosaic Idealize.ShloMosaic.TcCoe Cert.KernelIdeal.Gen
open Idealize.SL Idealize.SL.Sem
open Cert.Halo

variable (m : (ℓ : Loc nD τ sig) → Buf (Elt Ideal) ℓ) (ρ : Dev nD → PrngReg)

/-- The inputs, the weights and the output gradient, the tokens in the flat order. -/
def argX (c : Dev nD) (t : Fin 2048) (i : Fin 2880) : EReal :=
  m ((c : Thread nD τ).loc main_arg0) (ix3 (⟨t.val / 1024, by omega⟩ : Fin 2) (⟨t.val % 1024, by omega⟩ : Fin 1024) i)
def argW (c : Dev nD) (o : Fin 2304) (i : Fin 2880) : EReal := m ((c : Thread nD τ).loc main_arg1) (ix2 o i)
def argD (c : Dev nD) (t : Fin 2048) (o : Fin 2304) : EReal :=
  m ((c : Thread nD τ).loc main_arg2) (ix3 (⟨t.val / 1024, by omega⟩ : Fin 2) (⟨t.val % 1024, by omega⟩ : Fin 1024) o)

/-- The two matrices of signs. -/
def litO (p q : Fin 256) : EReal := FloatOps.ofBits (F := Ideal) .bf16 (lit0 (⟨p.val * 256 + q.val, by omega⟩ : Fin 65536))
def litT (p q : Fin 256) : EReal := FloatOps.ofBits (F := Ideal) .bf16 (lit1 (⟨p.val * 256 + q.val, by omega⟩ : Fin 65536))

/-! ### The contents at the first region's entry -/

theorem v1_cst (c : Dev nD) (p q : Fin 256) : V1 m ρ c main_cst (ix2 p q) = litO p q := by
  unfold V1 W1 litO
  after_reads_at
  refine congrArg (fun z => Ideal.ofBits FTy.bf16 (lit0 z)) (Fin.ext ?_)
  exact Shape.rowMajor_val_two _
theorem v1_cst0 (c : Dev nD) (p q : Fin 256) : V1 m ρ c main_cst_0 (ix2 p q) = litT p q := by
  unfold V1 W1 litT
  after_reads_at
  refine congrArg (fun z => Ideal.ofBits FTy.bf16 (lit1 z)) (Fin.ext ?_)
  exact Shape.rowMajor_val_two _
theorem v1_x (c : Dev nD) (b : Fin 2) (i : Fin 2880) (s : Fin 1024) :
    V1 m ρ c main_v0 (ix3 b i s) = m ((c : Thread nD τ).loc main_arg0) (ix3 b s i) := by
  unfold V1 W1
  after_reads_at
theorem v1_w (c : Dev nD) (i : Fin 2880) (o : Fin 2304) : V1 m ρ c main_v1 (ix2 i o) = argW m c o i := by
  unfold V1 W1 argW
  after_reads_at
theorem v1_dy (c : Dev nD) (t : Fin 2048) (o : Fin 2304) : V1 m ρ c main_v2 (ix2 t o) = argD m c t o := by
  unfold V1 W1 argD
  after_reads_at

/-! ### The rows that are transformed -/

/-- Token `t` of the output gradient; column `o` of it; column `i` of the weights; column `i` of the inputs. -/
def rO (c : Dev nD) (t : Fin 2048) : Fin 2304 → EReal := had d2304 (fun j => argD m c t j) litO
def rT (c : Dev nD) (o : Fin 2304) : Fin 2048 → EReal := had d2048 (fun t => argD m c t o) fun p q => litT q p
def rW (c : Dev nD) (i : Fin 2880) : Fin 2304 → EReal := had d2304 (fun o => argW m c o i) litO
def rX (c : Dev nD) (i : Fin 2880) : Fin 2048 → EReal := had d2048 (fun t => argX m c t i) litT

/-! ### The regions' results in the fold -/

theorem w2_codes (c : Dev nD) (t : Fin 2048) (j : Fin 2304) :
    W2 m ρ c (Proc.devRef .tc main_v3_0) (ix2 t j) = rowCode nOut (rO m c t) j := by
  refine (congrFun ((W2_arr m ρ c 2).trans (arr0_codes (V1 m ρ) c)) (ix2 t j)).trans (congrArg (fun f => rowCode nOut f j) ?_)
  exact congrArg₂ (had d2304) (funext fun j => v1_dy m ρ c t j) (funext fun p => funext fun q => v1_cst m ρ c p q)

theorem w2_scale (c : Dev nD) (t : Fin 2048) :
    W2 m ρ c (Proc.devRef .tc main_v3_1) (ix2 t 0) = rowScale nOut (rO m c t) := by
  refine (congrFun ((W2_arr m ρ c 3).trans (arr0_scale (V1 m ρ) c)) (ix2 t 0)).trans (congrArg (rowScale nOut) ?_)
  exact congrArg₂ (had d2304) (funext fun j => v1_dy m ρ c t j) (funext fun p => funext fun q => v1_cst m ρ c p q)

/-! The second region's entry. -/

theorem v3_of (c : Dev nD) (r : Ref sig .tc) (h : r ∉ hostOps1_W)
    (h' : ∀ w : Fin cfg0.W, Pipeline.arrRef spec0 w = r → (cfg0.win w).isOut = false) : V3 m ρ c r = V1 m ρ c r :=
  (W3_of m ρ c r h).trans (W2_of m ρ c r h')

theorem v3_codes (c : Dev nD) (t : Fin 2048) (j : Fin 2304) : V3 m ρ c main_v3_0 (ix2 t j) = rowCode nOut (rO m c t) j :=
  (congrFun (W3_of m ρ c main_v3_0 (by decide)) (ix2 t j)).trans (w2_codes m ρ c t j)

theorem v3_scale (c : Dev nD) (t : Fin 2048) : V3 m ρ c main_v4 (ix2 0 t) = rowScale nOut (rO m c t) := by
  rw [← w2_scale m ρ c t]
  unfold V3 W3
  after_reads_at

theorem v3_row (c : Dev nD) (i : Fin 2880) :
    (had d2304 (fun j => V3 m ρ c main_v1 (ix2 i j)) fun p q => V3 m ρ c main_cst (ix2 p q)) = rW m c i := by
  rw [v3_of m ρ c main_v1 (by decide) (by decide), v3_of m ρ c main_cst (by decide) (by decide)]
  exact congrArg₂ (had d2304) (funext fun j => v1_w m ρ c i j) (funext fun p => funext fun q => v1_cst m ρ c p q)

theorem w4_codes (c : Dev nD) (i : Fin 2880) (o : Fin 2304) :
    W4 m ρ c (Proc.devRef .tc main_v5_1) (ix2 i o) = rowCode nOut (rW m c i) o :=
  (congrFun ((W4_arr m ρ c 5).trans (arr1_codes (V3 m ρ) c)) (ix2 i o)).trans (congrArg (fun f => rowCode nOut f o) (v3_row m ρ c i))

theorem w4_scale (c : Dev nD) (i : Fin 2880) : W4 m ρ c (Proc.devRef .tc main_v5_2) (ix2 i 0) = rowScale nOut (rW m c i) :=
  (congrFun ((W4_arr m ρ c 6).trans (arr1_scale (V3 m ρ) c)) (ix2 i 0)).trans (congrArg (rowScale nOut) (v3_row m ρ c i))

theorem w4_prod (c : Dev nD) (b : Fin 2) (i : Fin 2880) (s : Fin 1024) :
    W4 m ρ c (Proc.devRef .tc main_v5_0) (ix3 b i s)
      = (∑ j : Fin 2304, rowCode nOut (rW m c i) j * rowCode nOut (rO m c (tok b.val s.val b.isLt s.isLt)) j)
        * rowScale nOut (rO m c (tok b.val s.val b.isLt s.isLt)) * rowScale nOut (rW m c i) := by
  refine (congrFun ((W4_arr m ρ c 4).trans (arr1_prod (V3 m ρ) c)) (ix3 b i s)).trans ?_
  exact congrArg₂ (· * ·) (congrArg₂ (· * ·) (Finset.sum_congr rfl fun j _ =>
    congrArg₂ (· * ·) (congrArg (fun f => rowCode nOut f j) (v3_row m ρ c i)) (v3_codes m ρ c _ j)) (v3_scale m ρ c _))
    (congrArg (rowScale nOut) (v3_row m ρ c i))

/-! The third region's entry. -/

theorem v4_of (c : Dev nD) (r : Ref sig .tc) (h : r ∉ hostOps1_W)
    (h' : ∀ w : Fin cfg0.W, Pipeline.arrRef spec0 w = r → (cfg0.win w).isOut = false)
    (h'' : ∀ w : Fin cfg1.W, Pipeline.arrRef spec1 w = r → (cfg1.win w).isOut = false) : V4 m ρ c r = V1 m ρ c r :=
  (W4_of m ρ c r h'').trans (v3_of m ρ c r h h')

theorem v4_row (c : Dev nD) (o : Fin 2304) :
    (had d2048 (fun k => V4 m ρ c main_v2 (ix2 k o)) fun p r => V4 m ρ c main_cst_0 (ix2 r p)) = rT m c o := by
  rw [v4_of m ρ c main_v2 (by decide) (by decide) (by decide), v4_of m ρ c main_cst_0 (by decide) (by decide) (by decide)]
  exact congrArg₂ (had d2048) (funext fun j => v1_dy m ρ c j o) (funext fun p => funext fun q => v1_cst0 m ρ c q p)

theorem w5_codes (c : Dev nD) (t : Fin 2048) (o : Fin 2304) :
    W5 m ρ c (Proc.devRef .tc main_v6_0) (ix2 t o) = rowCode nTok (rT m c o) t :=
  (congrFun ((W5_arr m ρ c 2).trans (arr2_codes (V4 m ρ) c)) (ix2 t o)).trans (congrArg (fun f => rowCode nTok f t) (v4_row m ρ c o))

theorem w5_scale (c : Dev nD) (o : Fin 2304) : W5 m ρ c (Proc.devRef .tc main_v6_1) (ix2 0 o) = rowScale nTok (rT m c o) :=
  (congrFun ((W5_arr m ρ c 3).trans (arr2_scale (V4 m ρ) c)) (ix2 0 o)).trans (congrArg (rowScale nTok) (v4_row m ρ c o))

/-! The fourth region's entry. -/

theorem v5_of (c : Dev nD) (r : Ref sig .tc) (h : r ∉ hostOps1_W)
    (h0 : ∀ w : Fin cfg0.W, Pipeline.arrRef spec0 w = r → (cfg0.win w).isOut = false)
    (h1 : ∀ w : Fin cfg1.W, Pipeline.arrRef spec1 w = r → (cfg1.win w).isOut = false)
    (h2 : ∀ w : Fin cfg2.W, Pipeline.arrRef spec2 w = r → (cfg2.win w).isOut = false) : V5 m ρ c r = V1 m ρ c r :=
  (W5_of m ρ c r h2).trans (v4_of m ρ c r h h0 h1)

theorem v5_row (c : Dev nD) (i : Fin 2880) :
    (had d2048 (rowX (V5 m ρ) c i) fun p q => V5 m ρ c main_cst_0 (ix2 p q)) = rX m c i := by
  unfold rowX
  rw [v5_of m ρ c main_v0 (by decide) (by decide) (by decide) (by decide),
    v5_of m ρ c main_cst_0 (by decide) (by decide) (by decide) (by decide)]
  exact congrArg₂ (had d2048) (funext fun k => v1_x m ρ c _ i _) (funext fun p => funext fun q => v1_cst0 m ρ c p q)

theorem w6_codes (c : Dev nD) (b : Fin 2) (i : Fin 2880) (s : Fin 1024) :
    W6 m ρ c (Proc.devRef .tc main_v7_1) (ix3 b i s) = rowCode nTok (rX m c i) (tok b.val s.val b.isLt s.isLt) :=
  (congrFun ((W6_arr m ρ c 5).trans (arr3_codes (V5 m ρ) c)) (ix3 b i s)).trans
    (congrArg (fun f => rowCode nTok f (tok b.val s.val b.isLt s.isLt)) (v5_row m ρ c i))

theorem w6_scale (c : Dev nD) (i : Fin 2880) : W6 m ρ c (Proc.devRef .tc main_v7_2) (ix2 i 0) = rowScale nTok (rX m c i) :=
  (congrFun ((W6_arr m ρ c 6).trans (arr3_scale (V5 m ρ) c)) (ix2 i 0)).trans (congrArg (rowScale nTok) (v5_row m ρ c i))

theorem w6_prod (c : Dev nD) (i : Fin 2880) (o : Fin 2304) :
    W6 m ρ c (Proc.devRef .tc main_v7_0) (ix2 i o)
      = (∑ t : Fin 2048, rowCode nTok (rX m c i) t * rowCode nTok (rT m c o) t) * rowScale nTok (rT m c o) * rowScale nTok (rX m c i) := by
  refine (congrFun ((W6_arr m ρ c 4).trans (arr3_prod (V5 m ρ) c)) (ix2 i o)).trans ?_
  exact congrArg₂ (· * ·) (congrArg₂ (· * ·) (Finset.sum_congr rfl fun t _ =>
    congrArg₂ (· * ·) (congrArg (fun f => rowCode nTok f t) (v5_row m ρ c i)) (w5_codes m ρ c t o)) (w5_scale m ρ c o))
    (congrArg (rowScale nTok) (v5_row m ρ c i))

/-! The last line's entry. -/

theorem w6_of5 (c : Dev nD) (r : Ref sig .tc) (h : ∀ w : Fin cfg3.W, Pipeline.arrRef spec3 w = r → (cfg3.win w).isOut = false) :
    W6 m ρ c (Proc.devRef .tc r) = W5 m ρ c (Proc.devRef .tc r) := W6_of m ρ c r h
theorem w6_of4 (c : Dev nD) (r : Ref sig .tc) (h : ∀ w : Fin cfg3.W, Pipeline.arrRef spec3 w = r → (cfg3.win w).isOut = false)
    (h' : ∀ w : Fin cfg2.W, Pipeline.arrRef spec2 w = r → (cfg2.win w).isOut = false) :
    W6 m ρ c (Proc.devRef .tc r) = W4 m ρ c (Proc.devRef .tc r) := (w6_of5 m ρ c r h).trans (W5_of m ρ c r h')
theorem w6_of2 (c : Dev nD) (r : Ref sig .tc) (h : ∀ w : Fin cfg3.W, Pipeline.arrRef spec3 w = r → (cfg3.win w).isOut = false)
    (h' : ∀ w : Fin cfg2.W, Pipeline.arrRef spec2 w = r → (cfg2.win w).isOut = false)
    (h1 : ∀ w : Fin cfg1.W, Pipeline.arrRef spec1 w = r → (cfg1.win w).isOut = false) (h0 : r ∉ hostOps1_W) :
    W6 m ρ c (Proc.devRef .tc r) = W2 m ρ c (Proc.devRef .tc r) :=
  (w6_of4 m ρ c r h h').trans ((W4_of m ρ c r h1).trans (W3_of m ρ c r h0))

/-! ### The results -/

theorem res_dx (c : Dev nD) (b : Fin 2) (s : Fin 1024) (i : Fin 2880) :
    W7 m ρ c (Proc.devRef .tc main_v8) (ix3 b s i)
      = (∑ j : Fin 2304, rowCode nOut (rW m c i) j * rowCode nOut (rO m c (tok b.val s.val b.isLt s.isLt)) j)
        * rowScale nOut (rO m c (tok b.val s.val b.isLt s.isLt)) * rowScale nOut (rW m c i) := by
  rw [← w4_prod m ρ c b i s, ← w6_of4 m ρ c main_v5_0 (by decide) (by decide)]
  unfold W7
  after_reads_at

theorem res_dw (c : Dev nD) (o : Fin 2304) (i : Fin 2880) :
    W7 m ρ c (Proc.devRef .tc main_v9) (ix2 o i)
      = (∑ t : Fin 2048, rowCode nTok (rX m c i) t * rowCode nTok (rT m c o) t) * rowScale nTok (rT m c o) * rowScale nTok (rX m c i) := by
  rw [← w6_prod m ρ c i o]
  unfold W7
  after_reads_at

theorem res_dyo (c : Dev nD) (b : Fin 2) (s : Fin 1024) (j : Fin 2304) :
    W7 m ρ c (Proc.devRef .tc main_v10) (ix3 b s j) = rowCode nOut (rO m c (tok b.val s.val b.isLt s.isLt)) j := by
  rw [← w2_codes m ρ c, ← w6_of2 m ρ c main_v3_0 (by decide) (by decide) (by decide) (by decide)]
  unfold W7 tok
  after_reads_at

theorem res_dyos (c : Dev nD) (b : Fin 2) (s : Fin 1024) :
    W7 m ρ c (Proc.devRef .tc main_v11) (ix2 b s) = rowScale nOut (rO m c (tok b.val s.val b.isLt s.isLt)) := by
  rw [← w2_scale m ρ c, ← w6_of2 m ρ c main_v3_1 (by decide) (by decide) (by decide) (by decide)]
  unfold W7 tok
  after_reads_at

theorem res_wc (c : Dev nD) (o : Fin 2304) (i : Fin 2880) :
    W7 m ρ c (Proc.devRef .tc main_v12) (ix2 o i) = rowCode nOut (rW m c i) o := by
  rw [← w4_codes m ρ c, ← w6_of4 m ρ c main_v5_1 (by decide) (by decide)]
  unfold W7
  after_reads_at

theorem res_ws (c : Dev nD) (i : Fin 2880) : W7 m ρ c (Proc.devRef .tc main_v13) (ix1 i) = rowScale nOut (rW m c i) := by
  rw [← w4_scale m ρ c, ← w6_of4 m ρ c main_v5_2 (by decide) (by decide)]
  unfold W7
  after_reads_at

theorem res_dyt (c : Dev nD) (b : Fin 2) (s : Fin 1024) (o : Fin 2304) :
    W7 m ρ c (Proc.devRef .tc main_v14) (ix3 b s o) = rowCode nTok (rT m c o) (tok b.val s.val b.isLt s.isLt) := by
  rw [← w5_codes m ρ c, ← w6_of5 m ρ c main_v6_0 (by decide)]
  unfold W7 tok
  after_reads_at

theorem res_dyts (c : Dev nD) (o : Fin 2304) : W7 m ρ c (Proc.devRef .tc main_v15) (ix1 o) = rowScale nTok (rT m c o) := by
  rw [← w5_scale m ρ c, ← w6_of5 m ρ c main_v6_1 (by decide)]
  unfold W7
  after_reads_at

theorem res_xc (c : Dev nD) (b : Fin 2) (s : Fin 1024) (i : Fin 2880) :
    W7 m ρ c (Proc.devRef .tc main_v16) (ix3 b s i) = rowCode nTok (rX m c i) (tok b.val s.val b.isLt s.isLt) := by
  rw [← w6_codes m ρ c b i s]
  unfold W7
  after_reads_at

theorem res_xs (c : Dev nD) (i : Fin 2880) : W7 m ρ c (Proc.devRef .tc main_v17) (ix1 i) = rowScale nTok (rX m c i) := by
  rw [← w6_scale m ρ c i]
  unfold W7
  after_reads_at

end Cert.KernelIdeal.Halo
-- ==== Proof.RefQuant.lean ====
/-
  The reference's quantiser, as operations on whole matrices, and read at an index.

  `RowQ.scales`/`RowQ.codesOf` quantise along the rows, `ColQ.scales`/`ColQ.codesOf` along the columns. In both, the scale of a row (column) is
  `scaleR` of its amax over 448, and a code is the element times the scale's inverse, clipped to ±448.
-/
module

public import proofs.«01_k».proof.Proof.Block

@[expose] public section

set_option maxRecDepth 16384

noncomputable section

namespace Cert.Halo

open Idealize.ShloMosaic

/-- The scalar shape. -/
abbrev S0 : Shape := ⟨0, ![]⟩

/-! ## Constants -/

theorem w_inf : Ideal.ofBits .f32 0x7F800000#32 = ⊤ := by
  have e := pw_eq 255 (by omega)
  unfold pw at e
  have : IntOp.shli .vector (BitVec.ofNat 32 255) 23#32 = 0x7F800000#32 := by decide
  rw [this] at e
  rw [e]; simp [thr]

theorem w_min : Ideal.ofBits .f32 0x00800000#32 = thr 1 := by
  have e := pw_eq 1 (by omega)
  unfold pw at e
  have : IntOp.shli .vector (BitVec.ofNat 32 1) 23#32 = 0x00800000#32 := by decide
  rwa [this] at e

theorem w_one : Ideal.ofBits .f32 0x3F800000#32 = 1 := by
  have e := pw_eq 127 (by omega)
  unfold pw at e
  have : IntOp.shli .vector (BitVec.ofNat 32 127) 23#32 = 0x3F800000#32 := by decide
  rw [this] at e
  rw [e]; simp [thr]

theorem w_two : Ideal.ofBits .f32 0x40000000#32 = ((2 : ℝ) : EReal) := by
  have e := pw_eq 128 (by omega)
  unfold pw at e
  have : IntOp.shli .vector (BitVec.ofNat 32 128) 23#32 = 0x40000000#32 := by decide
  rw [this] at e
  rw [e]; simp [thr]

theorem w_exp : ∀ k : Fin 253, (IntOp.subi (BitVec.ofNat 32 k.val) 125#32).toInt = (k.val : ℤ) - 125 := by decide

/-- The table of powers at `k`. -/
theorem table_at (k : Fin 253) :
    Ideal.pow (Ideal.ofBits .f32 0x40000000#32) (((IntOp.subi (BitVec.ofNat 32 k.val) 125#32).toInt : ℝ) : EReal) = powR k := by
  rw [w_two, w_exp k]; rfl

/-- The scale, as the reference computes it from the least entry above. -/
theorem scale_sel (v : EReal) :
    (if v < Ideal.ofBits .f32 0x00800000#32 then Ideal.ofBits .f32 0x3F800000#32
      else Finset.univ.fold min (Ideal.ofBits .f32 0x7F800000#32) (fun k : Fin 253 => if v < powR k then powR k else Ideal.ofBits .f32 0x7F800000#32))
      = scaleR v := by
  unfold scaleR
  rw [w_min, w_one, w_inf]
  rfl

/-! ## Along the rows -/

/-- The shape facts of quantising an A×B matrix along its rows. -/
structure RowQ (A B : ℕ) : Prop where
  neA : A ≠ 1
  red : (Sh A B).ReducesTo [1] (Sv A)
  num : 0 < S0.numel
  up : (Sv A).BroadcastsInDim (Sh A 1) (![0] : Fin 1 → Fin (Sh A 1).rank)
  k1 : S0.BroadcastsInDim (Sh A 1) (![] : Fin 0 → Fin (Sh A 1).rank)
  e0 : S0.BroadcastsInDim (Sv 253) (![] : Fin 0 → Fin (Sv 253).rank)
  eup : (Sv 253).BroadcastsInDim (Sh 1 253) (![1] : Fin 1 → Fin (Sh 1 253).rank)
  two : S0.BroadcastsInDim (Sh 1 253) (![] : Fin 0 → Fin (Sh 1 253).rank)
  wide : (Sh A 1).BroadcastsInDim (Sh A 253) (![0, 1] : Fin 2 → Fin (Sh A 253).rank)
  tall : (Sh 1 253).BroadcastsInDim (Sh A 253) (![0, 1] : Fin 2 → Fin (Sh A 253).rank)
  inf : S0.BroadcastsInDim (Sh A 253) (![] : Fin 0 → Fin (Sh A 253).rank)
  redT : (Sh A 253).ReducesTo [1] (Sv A)
  full : (Sh A 1).BroadcastsInDim (Sh A B) (![0, 1] : Fin 2 → Fin (Sh A B).rank)
  kf : S0.BroadcastsInDim (Sh A B) (![] : Fin 0 → Fin (Sh A B).rank)

namespace RowQ

variable {A B : ℕ} (h : RowQ A B)

/-- The rows' amax over 448. -/
def amax (X : FVec Ideal (Sh A B) .f32) : FVec Ideal (Sh A 1) .f32 :=
  mulf (broadcastInDim (Sh A 1) ![0] h.up (Host.reduce FloatOps.maximumf (Host.absf X) (constant S0 .f32 0xFF800000#32) h.red h.num))
    (broadcastInDim (Sh A 1) ![] h.k1 (constant S0 .f32 0x3B124925#32))

/-- The table. -/
def table : FVec Ideal (Sh 1 253) .f32 :=
  Host.powf (broadcastInDim (Sh 1 253) ![] h.two (constant S0 .f32 0x40000000#32))
    (sitofp .f32 (broadcastInDim (Sh 1 253) ![1] h.eup (subi (iotaInDim (Sv 253) 32 0) (broadcastInDim (Sv 253) ![] h.e0 (constantI S0 32 125#32)))))

/-- The table's entries above the amax, infinity elsewhere. -/
def above (a : FVec Ideal (Sh A 1) .f32) : FVec Ideal (Sh A 253) .f32 :=
  select (cmpf .olt (broadcastInDim (Sh A 253) ![0, 1] h.wide a) (broadcastInDim (Sh A 253) ![0, 1] h.tall h.table))
    (broadcastInDim (Sh A 253) ![0, 1] h.tall h.table) (broadcastInDim (Sh A 253) ![] h.inf (constant (F := Ideal) S0 .f32 0x7F800000#32))

/-- The scales from the amax. -/
def scaleOf (a : FVec Ideal (Sh A 1) .f32) : FVec Ideal (Sh A 1) .f32 :=
  select (cmpf .olt a (broadcastInDim (Sh A 1) ![] h.k1 (constant S0 .f32 0x00800000#32)))
    (broadcastInDim (Sh A 1) ![] h.k1 (constant (F := Ideal) S0 .f32 0x3F800000#32))
    (broadcastInDim (Sh A 1) ![0] h.up (Host.reduce FloatOps.minimumf (h.above a) (constant S0 .f32 0x7F800000#32) h.redT h.num))

/-- The scales. -/
def scales (X : FVec Ideal (Sh A B) .f32) : FVec Ideal (Sh A 1) .f32 := h.scaleOf (h.amax X)

/-- The codes, from the scales. -/
def codesOf (X : FVec Ideal (Sh A B) .f32) (s : FVec Ideal (Sh A 1) .f32) : FVec Ideal (Sh A B) .f32 :=
  minimumf (broadcastInDim (Sh A B) ![] h.kf (constant S0 .f32 0x43E00000#32))
    (maximumf (broadcastInDim (Sh A B) ![] h.kf (constant S0 .f32 0xC3E00000#32))
      (mulf X (broadcastInDim (Sh A B) ![0, 1] h.full (Host.divf (broadcastInDim (Sh A 1) ![] h.k1 (constant S0 .f32 0x3F800000#32)) s))))

theorem amax_apply (X : FVec Ideal (Sh A B) .f32) (r : Fin A) :
    h.amax X (ix2 r 0) = (Finset.univ.sup fun j : Fin B => ab (X (ix2 r j))) * c448 := by
  unfold amax
  pointwise
  rw [ofBits_neg_inf]
  simp only [h.neA, ↓reduceDIte]
  rfl

theorem table_apply (k : Fin 253) : h.table (ix2 0 k) = powR k := by
  unfold table
  rw [← table_at]
  pointwise
  rfl

theorem above_apply (a : FVec Ideal (Sh A 1) .f32) (r : Fin A) (k : Fin 253) :
    h.above a (ix2 r k) = if a (ix2 r 0) < powR k then powR k else Ideal.ofBits .f32 0x7F800000#32 := by
  unfold above
  rw [← h.table_apply k]
  generalize h.table = T
  pointwise
  simp only [h.neA, ↓reduceDIte]

theorem scaleOf_apply (a : FVec Ideal (Sh A 1) .f32) (r : Fin A) : h.scaleOf a (ix2 r 0) = scaleR (a (ix2 r 0)) := by
  unfold scaleOf
  rw [← scale_sel]
  simp only [← h.above_apply a r]
  generalize h.above a = T
  pointwise
  simp only [h.neA, ↓reduceDIte]

theorem scales_apply (X : FVec Ideal (Sh A B) .f32) (r : Fin A) :
    h.scales X (ix2 r 0) = scaleR ((Finset.univ.sup fun j : Fin B => ab (X (ix2 r j))) * c448) := by
  unfold scales
  rw [scaleOf_apply, amax_apply]

theorem codesOf_apply (X : FVec Ideal (Sh A B) .f32) (s : FVec Ideal (Sh A 1) .f32) (r : Fin A) (j : Fin B) :
    h.codesOf X s (ix2 r j) = clip (X (ix2 r j) * Ideal.div 1 (s (ix2 r 0))) := by
  unfold codesOf
  rw [← w_one]
  pointwise [clip]
  simp only [h.neA, ↓reduceDIte]

end RowQ

/-! ## Along the columns -/

/-- The shape facts of quantising an A×B matrix along its columns. -/
structure ColQ (A B : ℕ) : Prop where
  neB : B ≠ 1
  red : (Sh A B).ReducesTo [0] (Sv B)
  num : 0 < S0.numel
  up : (Sv B).BroadcastsInDim (Sh 1 B) (![1] : Fin 1 → Fin (Sh 1 B).rank)
  k1 : S0.BroadcastsInDim (Sh 1 B) (![] : Fin 0 → Fin (Sh 1 B).rank)
  e0 : S0.BroadcastsInDim (Sv 253) (![] : Fin 0 → Fin (Sv 253).rank)
  eup : (Sv 253).BroadcastsInDim (Sh 253 1) (![0] : Fin 1 → Fin (Sh 253 1).rank)
  two : S0.BroadcastsInDim (Sh 253 1) (![] : Fin 0 → Fin (Sh 253 1).rank)
  tall : (Sh 1 B).BroadcastsInDim (Sh 253 B) (![0, 1] : Fin 2 → Fin (Sh 253 B).rank)
  wide : (Sh 253 1).BroadcastsInDim (Sh 253 B) (![0, 1] : Fin 2 → Fin (Sh 253 B).rank)
  inf : S0.BroadcastsInDim (Sh 253 B) (![] : Fin 0 → Fin (Sh 253 B).rank)
  redT : (Sh 253 B).ReducesTo [0] (Sv B)
  full : (Sh 1 B).BroadcastsInDim (Sh A B) (![0, 1] : Fin 2 → Fin (Sh A B).rank)
  kf : S0.BroadcastsInDim (Sh A B) (![] : Fin 0 → Fin (Sh A B).rank)

namespace ColQ

variable {A B : ℕ} (h : ColQ A B)

/-- The columns' amax over 448. -/
def amax (X : FVec Ideal (Sh A B) .f32) : FVec Ideal (Sh 1 B) .f32 :=
  mulf (broadcastInDim (Sh 1 B) ![1] h.up (Host.reduce FloatOps.maximumf (Host.absf X) (constant S0 .f32 0xFF800000#32) h.red h.num))
    (broadcastInDim (Sh 1 B) ![] h.k1 (constant S0 .f32 0x3B124925#32))

/-- The table. -/
def table : FVec Ideal (Sh 253 1) .f32 :=
  Host.powf (broadcastInDim (Sh 253 1) ![] h.two (constant S0 .f32 0x40000000#32))
    (sitofp .f32 (broadcastInDim (Sh 253 1) ![0] h.eup (subi (iotaInDim (Sv 253) 32 0) (broadcastInDim (Sv 253) ![] h.e0 (constantI S0 32 125#32)))))

/-- The table's entries above the amax, infinity elsewhere. -/
def above (a : FVec Ideal (Sh 1 B) .f32) : FVec Ideal (Sh 253 B) .f32 :=
  select (cmpf .olt (broadcastInDim (Sh 253 B) ![0, 1] h.tall a) (broadcastInDim (Sh 253 B) ![0, 1] h.wide h.table))
    (broadcastInDim (Sh 253 B) ![0, 1] h.wide h.table) (broadcastInDim (Sh 253 B) ![] h.inf (constant (F := Ideal) S0 .f32 0x7F800000#32))

/-- The scales from the amax. -/
def scaleOf (a : FVec Ideal (Sh 1 B) .f32) : FVec Ideal (Sh 1 B) .f32 :=
  select (cmpf .olt a (broadcastInDim (Sh 1 B) ![] h.k1 (constant S0 .f32 0x00800000#32)))
    (broadcastInDim (Sh 1 B) ![] h.k1 (constant (F := Ideal) S0 .f32 0x3F800000#32))
    (broadcastInDim (Sh 1 B) ![1] h.up (Host.reduce FloatOps.minimumf (h.above a) (constant S0 .f32 0x7F800000#32) h.redT h.num))

/-- The scales. -/
def scales (X : FVec Ideal (Sh A B) .f32) : FVec Ideal (Sh 1 B) .f32 := h.scaleOf (h.amax X)

/-- The codes, from the scales. -/
def codesOf (X : FVec Ideal (Sh A B) .f32) (s : FVec Ideal (Sh 1 B) .f32) : FVec Ideal (Sh A B) .f32 :=
  minimumf (broadcastInDim (Sh A B) ![] h.kf (constant S0 .f32 0x43E00000#32))
    (maximumf (broadcastInDim (Sh A B) ![] h.kf (constant S0 .f32 0xC3E00000#32))
      (mulf X (broadcastInDim (Sh A B) ![0, 1] h.full (Host.divf (broadcastInDim (Sh 1 B) ![] h.k1 (constant S0 .f32 0x3F800000#32)) s))))

theorem amax_apply (X : FVec Ideal (Sh A B) .f32) (j : Fin B) :
    h.amax X (ix2 0 j) = (Finset.univ.sup fun r : Fin A => ab (X (ix2 r j))) * c448 := by
  unfold amax
  pointwise
  rw [ofBits_neg_inf]
  simp only [h.neB, ↓reduceDIte]
  rfl

theorem table_apply (k : Fin 253) : h.table (ix2 k 0) = powR k := by
  unfold table
  rw [← table_at]
  pointwise
  rfl

theorem above_apply (a : FVec Ideal (Sh 1 B) .f32) (k : Fin 253) (j : Fin B) :
    h.above a (ix2 k j) = if a (ix2 0 j) < powR k then powR k else Ideal.ofBits .f32 0x7F800000#32 := by
  unfold above
  rw [← h.table_apply k]
  generalize h.table = T
  pointwise
  simp only [h.neB, ↓reduceDIte]

theorem scaleOf_apply (a : FVec Ideal (Sh 1 B) .f32) (j : Fin B) : h.scaleOf a (ix2 0 j) = scaleR (a (ix2 0 j)) := by
  unfold scaleOf
  rw [← scale_sel]
  simp only [← h.above_apply a _ j]
  generalize h.above a = T
  pointwise
  simp only [h.neB, ↓reduceDIte]

theorem scales_apply (X : FVec Ideal (Sh A B) .f32) (j : Fin B) :
    h.scales X (ix2 0 j) = scaleR ((Finset.univ.sup fun r : Fin A => ab (X (ix2 r j))) * c448) := by
  unfold scales
  rw [scaleOf_apply, amax_apply]

theorem codesOf_apply (X : FVec Ideal (Sh A B) .f32) (s : FVec Ideal (Sh 1 B) .f32) (r : Fin A) (j : Fin B) :
    h.codesOf X s (ix2 r j) = clip (X (ix2 r j) * Ideal.div 1 (s (ix2 0 j))) := by
  unfold codesOf
  rw [← w_one]
  pointwise [clip]
  simp only [h.neB, ↓reduceDIte]

end ColQ

end Cert.Halo
-- ==== Proof.RefVal.lean ====
/-
  The reference's host operations: the scales and codes of the four matrices it quantises as the quantiser's.
-/
module

public import proofs.«01_k».proof.Proof.RefQuant
public import proofs.«01_k».proof.Proof.Gen.ReferenceIdeal.Frame
public import Idealize.ShloMosaic.Lib.StableHlo.ReadAt

@[expose] public section

set_option maxRecDepth 16384

noncomputable section

namespace Cert.ReferenceIdeal.Halo

open Idealize.ShloMosaic Idealize.ShloMosaic.TcCoe Cert.ReferenceIdeal.Gen
open Idealize.SL Idealize.SL.Sem
open Cert.Halo

variable (m : (ℓ : Loc nD τ sig) → Buf (Elt Ideal) ℓ)

/-- The shape facts of the four quantisers. -/
theorem oQ : RowQ 2048 2304 := by constructor <;> decide
theorem wQ : ColQ 2304 2880 := by constructor <;> decide
theorem tQ : ColQ 2048 2304 := by constructor <;> decide
theorem xQ : ColQ 2048 2880 := by constructor <;> decide

/-! ### Scales and codes -/

set_option maxHeartbeats 4000000 in
theorem o_scales (c : Dev nD) : V m c main_v62 = oQ.scales (V m c main_v41) := by
  unfold V V0
  after_reads_simp
  simp -implicitDefEqProofs only [StableHlo.TRef.toBuf, StableHlo.TRef.ofBuf, cast_cast, cast_eq, id_eq]
  clean_types
  unfold RowQ.scales RowQ.scaleOf RowQ.above RowQ.table RowQ.amax
  generalize (shapeCast S2048x2304 _ _ : FVec Ideal S2048x2304 .f32) = X
  rfl

set_option maxHeartbeats 4000000 in
theorem o_codes (c : Dev nD) : V m c main_v67 = oQ.codesOf (V m c main_v41) (V m c main_v62) := by
  unfold V V0
  after_reads_simp
  simp -implicitDefEqProofs only [StableHlo.TRef.toBuf, StableHlo.TRef.ofBuf, cast_cast, cast_eq, id_eq]
  clean_types
  unfold RowQ.codesOf
  generalize (select _ _ _ : FVec Ideal _ .f32) = T
  generalize (shapeCast S2048x2304 _ _ : FVec Ideal S2048x2304 .f32) = X
  rfl

set_option maxHeartbeats 4000000 in
theorem w_scales (c : Dev nD) : V m c main_v89 = wQ.scales (V m c main_v68) := by
  unfold V V0
  after_reads_simp
  simp -implicitDefEqProofs only [StableHlo.TRef.toBuf, StableHlo.TRef.ofBuf, cast_cast, cast_eq, id_eq]
  clean_types
  unfold ColQ.scales ColQ.scaleOf ColQ.above ColQ.table ColQ.amax
  generalize (shapeCast S2304x2880 _ _ : FVec Ideal S2304x2880 .f32) = X
  rfl

set_option maxHeartbeats 4000000 in
theorem w_codes (c : Dev nD) : V m c main_v94 = wQ.codesOf (V m c main_v68) (V m c main_v89) := by
  unfold V V0
  after_reads_simp
  simp -implicitDefEqProofs only [StableHlo.TRef.toBuf, StableHlo.TRef.ofBuf, cast_cast, cast_eq, id_eq]
  clean_types
  unfold ColQ.codesOf
  generalize (select _ _ _ : FVec Ideal _ .f32) = T
  generalize (shapeCast S2304x2880 _ _ : FVec Ideal S2304x2880 .f32) = X
  rfl

set_option maxHeartbeats 4000000 in
theorem t_scales (c : Dev nD) : V m c main_v116 = tQ.scales (V m c main_v95) := by
  unfold V V0
  after_reads_simp
  simp -implicitDefEqProofs only [StableHlo.TRef.toBuf, StableHlo.TRef.ofBuf, cast_cast, cast_eq, id_eq]
  clean_types
  unfold ColQ.scales ColQ.scaleOf ColQ.above ColQ.table ColQ.amax
  generalize (shapeCast S2048x2304 _ _ : FVec Ideal S2048x2304 .f32) = X
  rfl

set_option maxHeartbeats 4000000 in
theorem t_codes (c : Dev nD) : V m c main_v121 = tQ.codesOf (V m c main_v95) (V m c main_v116) := by
  unfold V V0
  after_reads_simp
  simp -implicitDefEqProofs only [StableHlo.TRef.toBuf, StableHlo.TRef.ofBuf, cast_cast, cast_eq, id_eq]
  clean_types
  unfold ColQ.codesOf
  generalize (select _ _ _ : FVec Ideal _ .f32) = T
  generalize (shapeCast S2048x2304 _ _ : FVec Ideal S2048x2304 .f32) = X
  rfl

set_option maxHeartbeats 4000000 in
theorem x_scales (c : Dev nD) : V m c main_v143 = xQ.scales (V m c main_v122) := by
  unfold V V0
  after_reads_simp
  simp -implicitDefEqProofs only [StableHlo.TRef.toBuf, StableHlo.TRef.ofBuf, cast_cast, cast_eq, id_eq]
  clean_types
  unfold ColQ.scales ColQ.scaleOf ColQ.above ColQ.table ColQ.amax
  generalize (shapeCast S2048x2880 _ _ : FVec Ideal S2048x2880 .f32) = X
  rfl

set_option maxHeartbeats 4000000 in
theorem x_codes (c : Dev nD) : V m c main_v148 = xQ.codesOf (V m c main_v122) (V m c main_v143) := by
  unfold V V0
  after_reads_simp
  simp -implicitDefEqProofs only [StableHlo.TRef.toBuf, StableHlo.TRef.ofBuf, cast_cast, cast_eq, id_eq]
  clean_types
  unfold ColQ.codesOf
  generalize (select _ _ _ : FVec Ideal _ .f32) = T
  generalize (shapeCast S2048x2880 _ _ : FVec Ideal S2048x2880 .f32) = X
  rfl

end Cert.ReferenceIdeal.Halo
-- ==== Proof.Sign.lean ====
/-
  The signs of a Hadamard matrix: -1 where the number of common one bits of row and column is odd.
-/
module

public import Idealize.ShloMosaic.PureOps

@[expose] public section

set_option maxRecDepth 16384

noncomputable section

namespace Cert.Halo

open Idealize.ShloMosaic

/-- `1 - 2 * parity (popcount (a & b))` as a machine word. -/
def sgnW (a b : BitVec 32) : BitVec 32 :=
  IntOp.subi 1#32 (IntOp.muli 2#32 (IntOp.andi (IntOp.ctpop (IntOp.andi a b)) 1#32))

theorem sgnW_comm (a b : BitVec 32) : sgnW a b = sgnW b a := by
  have e : IntOp.andi a b = IntOp.andi b a := BitVec.and_comm a b
  unfold sgnW
  rw [e]

/-- Whether the number of one bits of `v` < 256 is odd. -/
def par (v : ℕ) : Bool := Nat.testBit 0x6996 ((v ^^^ (v >>> 4)) &&& 15)

theorem par_all : ∀ v : Fin 256, IntOp.subi 1#32 (IntOp.muli 2#32 (IntOp.andi (IntOp.ctpop (BitVec.ofNat 32 v.val)) 1#32))
    = bif par v.val then 0xFFFFFFFF#32 else 1#32 := by decide +kernel

/-- The sign word by the parity. -/
theorem sgnW_par (a b : ℕ) (ha : a < 256) : sgnW (BitVec.ofNat 32 a) (BitVec.ofNat 32 b) = bif par (a &&& b) then 0xFFFFFFFF#32 else 1#32 := by
  have hv : a &&& b < 256 := Nat.lt_of_le_of_lt Nat.and_le_left ha
  have e : IntOp.andi (BitVec.ofNat 32 a) (BitVec.ofNat 32 b) = BitVec.ofNat 32 (a &&& b) := (BitVec.ofNat_and).symm
  unfold sgnW
  rw [e]
  exact par_all ⟨a &&& b, hv⟩

end Cert.Halo
-- ==== Proof.Equation.lean ====
/-
  A row quantised by the kernel is that row quantised by the reference.

  The kernel transforms a row with a matrix of signs, takes the amax of the raw sums and normalises afterwards; the reference
  normalises the sums first (`refO`, `refT`) and quantises those. `quant_o` and `quant_t` say that the scales and the codes agree
  where the row's magnitudes are at most the largest finite bf16 number.
-/
module

public import proofs.«01_k».proof.Proof.Spec
public import proofs.«01_k».proof.Proof.Sign
public import proofs.«01_k».proof.Proof.RefQuant

@[expose] public section

set_option maxRecDepth 16384

noncomputable section

namespace Cert.Halo

open Idealize.ShloMosaic

/-! ## Magnitudes -/

theorem ab_le {x : EReal} {a : ℝ} : ab x ≤ (a : EReal) ↔ x ≤ (a : EReal) ∧ ((-a : ℝ) : EReal) ≤ x := by
  unfold ab
  rw [max_le_iff, EReal.coe_neg]
  exact and_congr_right fun _ => EReal.neg_le

theorem ab_nonneg (x : EReal) : 0 ≤ ab x := by
  unfold ab
  rcases le_total 0 x with h | h
  · exact le_max_of_le_left h
  · exact le_max_of_le_right (EReal.neg_nonneg.mpr h)

theorem ab_add {x y : EReal} {a b : ℝ} (hx : ab x ≤ (a : EReal)) (hy : ab y ≤ (b : EReal)) : ab (x + y) ≤ ((a + b : ℝ) : EReal) := by
  rw [ab_le] at *
  refine ⟨?_, ?_⟩
  · rw [EReal.coe_add]; exact add_le_add hx.1 hy.1
  · rw [neg_add, EReal.coe_add]; exact add_le_add hx.2 hy.2

theorem ab_sum {ι : Type} (s : Finset ι) (f : ι → EReal) (a : ℝ) (h : ∀ i, ab (f i) ≤ (a : EReal)) :
    ab (∑ i ∈ s, f i) ≤ ((s.card * a : ℝ) : EReal) := by
  classical
  induction s using Finset.induction_on with
  | empty => simp [ab]
  | insert i s hi ih =>
    rw [Finset.sum_insert hi, Finset.card_insert_of_notMem hi]
    refine (ab_add (h i) ih).trans (EReal.coe_le_coe_iff.mpr (le_of_eq ?_))
    push_cast; ring

theorem mono_mul {n : ℝ} (hn : 0 < n) : Monotone fun x : EReal => x * (n : EReal) := fun _ _ h =>
  mul_le_mul_of_nonneg_right h (EReal.coe_nonneg.mpr hn.le)

theorem ab_mul {n : ℝ} (hn : 0 < n) (x : EReal) : ab (x * (n : EReal)) = ab x * (n : EReal) := by
  unfold ab
  rw [← EReal.neg_mul]
  exact ((mono_mul hn).map_max).symm

theorem ab_sign {x s : EReal} (hs : s = 1 ∨ s = -1) : ab (x * s) = ab x := by
  rcases hs with rfl | rfl
  · rw [mul_one]
  · unfold ab; rw [mul_comm x, EReal.neg_mul, one_mul, neg_neg, max_comm]

theorem sup_mul {N : ℕ} {n : ℝ} (hn : 0 < n) (f : Fin N → EReal) :
    (Finset.univ.sup f) * (n : EReal) = Finset.univ.sup fun i => f i * (n : EReal) :=
  Finset.comp_sup_eq_sup_comp_of_is_total (fun x : EReal => x * (n : EReal)) (mono_mul hn) (EReal.bot_mul_coe_of_pos hn)

/-! ## The constants -/

theorem nOut_eq : nOut = ((1 / 16 : ℝ) : EReal) := by
  simp only [nOut, Ideal.ofBits, Ideal.ieee]
  norm_num [BitVec.extractLsb', Nat.shiftRight_eq_div_pow]

theorem nTok_eq : nTok = ((11863283 / 134217728 : ℝ) : EReal) := by
  simp only [nTok, Ideal.ofBits, Ideal.ieee]
  norm_num [BitVec.extractLsb', Nat.shiftRight_eq_div_pow]

theorem c448_eq : c448 = ((9586981 / 4294967296 : ℝ) : EReal) := by
  simp only [c448, Ideal.ofBits, Ideal.ieee]
  norm_num [BitVec.extractLsb', Nat.shiftRight_eq_div_pow]

/-- The largest finite bf16 number. -/
def big : ℝ := 255 * 2 ^ 120

theorem big_eq : Ideal.ofBits .bf16 0x7F7F#16 = (big : EReal) := by
  simp only [Ideal.ofBits, Ideal.ieee, big]
  norm_num [BitVec.extractLsb', Nat.shiftRight_eq_div_pow]

theorem bf_one : Ideal.ofBits .bf16 0x3F80#16 = 1 := by
  simp only [Ideal.ofBits, Ideal.ieee]
  norm_num [BitVec.extractLsb', Nat.shiftRight_eq_div_pow]

theorem bf_neg : Ideal.ofBits .bf16 0xBF80#16 = -1 := by
  simp only [Ideal.ofBits, Ideal.ieee]
  norm_num [BitVec.extractLsb', Nat.shiftRight_eq_div_pow]

theorem bf_zero : Ideal.ofBits .bf16 0x0000#16 = 0 := by
  simp only [Ideal.ofBits, Ideal.ieee]
  norm_num [BitVec.extractLsb', Nat.shiftRight_eq_div_pow]

theorem bf_negzero : Ideal.ofBits .bf16 0x8000#16 = 0 := by
  simp only [Ideal.ofBits, Ideal.ieee]
  norm_num [BitVec.extractLsb', Nat.shiftRight_eq_div_pow]

/-! ## The signs -/

/-- The sign at (a, b): -1 where the number of common one bits is odd. -/
def sg (a b : ℕ) : EReal := FloatOps.sitofp (F := Ideal) .bf16 (sgnW (BitVec.ofNat 32 a) (BitVec.ofNat 32 b))

theorem sg_comm (a b : ℕ) : sg a b = sg b a := by unfold sg; rw [sgnW_comm]

theorem sg_pos : FloatOps.sitofp (F := Ideal) .bf16 1#32 = (1 : EReal) := by
  change (((1#32 : BitVec 32).toInt : ℝ) : EReal) = 1
  have : (1#32 : BitVec 32).toInt = 1 := by decide
  rw [this]; simp

theorem sg_neg : FloatOps.sitofp (F := Ideal) .bf16 0xFFFFFFFF#32 = (-1 : EReal) := by
  change (((0xFFFFFFFF#32 : BitVec 32).toInt : ℝ) : EReal) = -1
  have : (0xFFFFFFFF#32 : BitVec 32).toInt = -1 := by decide
  rw [this]; simp

theorem sg_par (a b : ℕ) (ha : a < 256) : sg a b = Ideal.ofBits .bf16 (bif par (a &&& b) then 0xBF80#16 else 0x3F80#16) := by
  unfold sg
  rw [sgnW_par a b ha]
  cases par (a &&& b)
  · exact sg_pos.trans bf_one.symm
  · exact sg_neg.trans bf_neg.symm

theorem sg_cases (a b : ℕ) (ha : a < 256) : sg a b = 1 ∨ sg a b = -1 := by
  rw [sg_par a b ha]
  cases par (a &&& b)
  · exact .inl bf_one
  · exact .inr bf_neg

/-! ## The reference's rows -/

/-- A row over the outputs, transformed in groups of 256 and normalised. -/
def refO (f : Fin 2304 → EReal) (j : Fin 2304) : EReal :=
  (∑ p : Fin 256, f ⟨j.val / 256 * 256 + p.val, by omega⟩ * sg p.val (j.val % 256)) * nOut

/-- A row over the tokens, transformed in groups of 128 and normalised. -/
def refT (f : Fin 2048 → EReal) (j : Fin 2048) : EReal :=
  (∑ p : Fin 128, sg p.val (j.val % 128) * f ⟨j.val / 128 * 128 + p.val, by omega⟩) * nTok

theorem had_o (f : Fin 2304 → EReal) (s : Fin 256 → Fin 256 → EReal) (hs : ∀ p q, s p q = sg p.val q.val) (j : Fin 2304) :
    had d2304 f s j * nOut = refO f j := by
  unfold had refO
  simp only [hs]

/-- The matrix of two blocks: only the half of the 256 rows in the element's own half counts. -/
theorem had_t (f : Fin 2048 → EReal) (s : Fin 256 → Fin 256 → EReal)
    (hs : ∀ p q, s p q = if p.val / 128 = q.val / 128 then sg (p.val % 128) (q.val % 128) else 0) (j : Fin 2048) :
    had d2048 f s j * nTok = refT f j := by
  unfold had refT
  congr 1
  simp only [hs]
  refine (Fin.sum_univ_add (a := 128) (b := 128) _).trans ?_
  rcases (by omega : j.val % 256 / 128 = 0 ∨ j.val % 256 / 128 = 1) with h | h
  · refine (congrArg₂ (· + ·) (Finset.sum_congr rfl fun p _ => ?_) (Finset.sum_eq_zero fun p _ => ?_)).trans (add_zero _)
    · have hp : (Fin.castAdd 128 p).val = p.val := rfl
      rw [if_pos (by simp only [hp]; omega), mul_comm]
      exact congrArg₂ (· * ·) (congrArg₂ sg (by simp only [hp]; omega) (by omega)) (congrArg f (Fin.ext (by simp only [hp]; omega)))
    · have hp : (Fin.natAdd 128 p).val = 128 + p.val := rfl
      rw [if_neg (by simp only [hp]; omega), mul_zero]
  · refine (congrArg₂ (· + ·) (Finset.sum_eq_zero fun p _ => ?_) (Finset.sum_congr rfl fun p _ => ?_)).trans (zero_add _)
    · have hp : (Fin.castAdd 128 p).val = p.val := rfl
      rw [if_neg (by simp only [hp]; omega), mul_zero]
    · have hp : (Fin.natAdd 128 p).val = 128 + p.val := rfl
      rw [if_pos (by simp only [hp]; omega), mul_comm]
      exact congrArg₂ (· * ·) (congrArg₂ sg (by simp only [hp]; omega) (by omega)) (congrArg f (Fin.ext (by simp only [hp]; omega)))

/-! ## The quantised rows -/

/-- The reference's scale of the row `R`. -/
def refScale {N : ℕ} (R : Fin N → EReal) : EReal := scaleR ((Finset.univ.sup fun j => ab (R j)) * c448)

/-- The reference's codes of the row `R`. -/
def refCode {N : ℕ} (R : Fin N → EReal) (j : Fin N) : EReal := clip (R j * Ideal.div 1 (refScale R))

/-- The kernel's scale and codes of the raw row `F` are the reference's of the normalised row `R`. -/
theorem quant_row {N : ℕ} (hN : 0 < N) {nE : EReal} {n K : ℝ} (hn : 0 < n) (e : nE = (n : EReal)) (F R : Fin N → EReal)
    (hR : ∀ j, F j * nE = R j) (hK : ∀ j, ab (R j) ≤ (K : EReal)) (hlt : K * (9586981 / 4294967296) < 2 ^ 126) :
    rowScale nE F = refScale R ∧ ∀ j, rowCode nE F j = refCode R j := by
  subst e
  have hsup : (Finset.univ.sup fun i => ab (F i)) * (n : EReal) = Finset.univ.sup fun j => ab (R j) := by
    rw [sup_mul hn]
    exact congrArg Finset.univ.sup (funext fun j => by rw [← hR j, ab_mul hn])
  have hle : (Finset.univ.sup fun j => ab (R j)) ≤ (K : EReal) := Finset.sup_le fun j _ => hK j
  have hge : 0 ≤ Finset.univ.sup fun j => ab (R j) :=
    (ab_nonneg _).trans (Finset.le_sup (f := fun j => ab (R j)) (Finset.mem_univ (⟨0, hN⟩ : Fin N)))
  have hc : (0 : ℝ) < 9586981 / 4294967296 := by norm_num
  have h0 : 0 ≤ (Finset.univ.sup fun j => ab (R j)) * c448 := by
    rw [c448_eq]; exact mul_nonneg hge (EReal.coe_nonneg.mpr hc.le)
  have h1 : (Finset.univ.sup fun j => ab (R j)) * c448 < thr 253 := by
    rw [c448_eq]
    refine (mono_mul hc hle).trans_lt ?_
    rw [thr_pos (by omega) (by omega)]
    change (K : EReal) * ((9586981 / 4294967296 : ℝ) : EReal) < _
    rw [← EReal.coe_mul]
    refine EReal.coe_lt_coe_iff.mpr (hlt.trans_le (le_of_eq ?_))
    rw [← zpow_natCast]; norm_num
  refine ⟨?_, fun j => ?_⟩
  · unfold rowScale refScale
    rw [hsup]; exact scale_eq h0 h1
  · unfold rowCode codeK refCode refScale
    rw [hsup, inv_eq h0 h1, ← hR j, mul_comm (Ideal.div _ _), mul_assoc]

theorem refO_le {f : Fin 2304 → EReal} (hf : ∀ j, ab (f j) ≤ (big : EReal)) (j : Fin 2304) : ab (refO f j) ≤ ((256 * big * (1 / 16) : ℝ) : EReal) := by
  unfold refO
  rw [nOut_eq, ab_mul (by norm_num), EReal.coe_mul]
  refine mono_mul (by norm_num) ((ab_sum _ _ big fun p => ?_).trans_eq (by simp))
  rw [ab_sign (sg_cases _ _ (by omega))]
  exact hf _

theorem refT_le {f : Fin 2048 → EReal} (hf : ∀ j, ab (f j) ≤ (big : EReal)) (j : Fin 2048) :
    ab (refT f j) ≤ ((128 * big * (11863283 / 134217728) : ℝ) : EReal) := by
  unfold refT
  rw [nTok_eq, ab_mul (by norm_num), EReal.coe_mul]
  refine mono_mul (by norm_num) ((ab_sum _ _ big fun p => ?_).trans_eq (by simp))
  rw [mul_comm, ab_sign (sg_cases _ _ (by omega))]
  exact hf _

/-- A row over the outputs: the kernel's scale and codes are the reference's. -/
theorem quant_o {f : Fin 2304 → EReal} (hf : ∀ j, ab (f j) ≤ (big : EReal)) (s : Fin 256 → Fin 256 → EReal)
    (hs : ∀ p q, s p q = sg p.val q.val) :
    rowScale nOut (had d2304 f s) = refScale (refO f) ∧ ∀ j, rowCode nOut (had d2304 f s) j = refCode (refO f) j :=
  quant_row (by omega) (by norm_num) nOut_eq _ _ (had_o f s hs) (refO_le hf) (by unfold big; norm_num)

/-- A row over the tokens: the kernel's scale and codes are the reference's. -/
theorem quant_t {f : Fin 2048 → EReal} (hf : ∀ j, ab (f j) ≤ (big : EReal)) (s : Fin 256 → Fin 256 → EReal)
    (hs : ∀ p q, s p q = if p.val / 128 = q.val / 128 then sg (p.val % 128) (q.val % 128) else 0) :
    rowScale nTok (had d2048 f s) = refScale (refT f) ∧ ∀ j, rowCode nTok (had d2048 f s) j = refCode (refT f) j :=
  quant_row (by omega) (by norm_num) nTok_eq _ _ (had_t f s hs) (refT_le hf) (by unfold big; norm_num)

end Cert.Halo
-- ==== Proof.RefMat.lean ====
/-
  The four matrices the reference quantises, as functions of its arguments.
-/
module

public import proofs.«01_k».proof.Proof.RefVal
public import proofs.«01_k».proof.Proof.Equation

@[expose] public section

set_option maxRecDepth 16384

noncomputable section

namespace Cert.ReferenceIdeal.Halo

open Idealize.ShloMosaic Idealize.ShloMosaic.TcCoe Cert.ReferenceIdeal.Gen
open Idealize.SL Idealize.SL.Sem
open Cert.Halo

variable (m : (ℓ : Loc nD τ sig) → Buf (Elt Ideal) ℓ)

/-- The inputs, the weights and the output gradient, the tokens in the flat order. -/
def argX (c : Dev nD) (t : Fin 2048) (i : Fin 2880) : EReal :=
  m ((c : Thread nD τ).loc main_arg0) (ix3 (⟨t.val / 1024, by omega⟩ : Fin 2) (⟨t.val % 1024, by omega⟩ : Fin 1024) i)
def argW (c : Dev nD) (o : Fin 2304) (i : Fin 2880) : EReal := m ((c : Thread nD τ).loc main_arg1) (ix2 o i)
def argD (c : Dev nD) (t : Fin 2048) (o : Fin 2304) : EReal :=
  m ((c : Thread nD τ).loc main_arg2) (ix3 (⟨t.val / 1024, by omega⟩ : Fin 2) (⟨t.val % 1024, by omega⟩ : Fin 1024) o)

/-- Token `t` of the output gradient, transformed and normalised. -/
def rO (c : Dev nD) (t : Fin 2048) : Fin 2304 → EReal := refO fun o => argD m c t o
/-- Column `i` of the weights. -/
def rW (c : Dev nD) (i : Fin 2880) : Fin 2304 → EReal := refO fun o => argW m c o i
/-- Column `o` of the output gradient. -/
def rT (c : Dev nD) (o : Fin 2304) : Fin 2048 → EReal := refT fun t => argD m c t o
/-- Column `i` of the inputs. -/
def rX (c : Dev nD) (i : Fin 2880) : Fin 2048 → EReal := refT fun t => argX m c t i

set_option maxHeartbeats 4000000 in
theorem o_mat (c : Dev nD) (t : Fin 2048) (j : Fin 2304) : V m c main_v41 (ix2 t j) = rO m c t j := by
  unfold V V0 rO refO argD sg sgnW
  after_reads_at

set_option maxHeartbeats 4000000 in
theorem w_mat (c : Dev nD) (t : Fin 2304) (j : Fin 2880) : V m c main_v68 (ix2 t j) = rW m c j t := by
  unfold V V0 rW refO argW sg sgnW
  after_reads_at
  refine congrArg (· * nOut) (Finset.sum_congr rfl fun p _ => ?_)
  exact mul_comm _ _

set_option maxHeartbeats 4000000 in
theorem t_mat (c : Dev nD) (t : Fin 2048) (j : Fin 2304) : V m c main_v95 (ix2 t j) = rT m c j t := by
  unfold V V0 rT refT argD sg sgnW
  after_reads_at
  refine congrArg (· * nTok) (Finset.sum_congr rfl fun p _ => ?_)
  refine congrArg (_ * ·) (congrArg (m ((c : Thread nD τ).loc main_arg2)) ?_)
  exact congrArg₂ (fun (b : Fin 2) (s : Fin 1024) => ix3 b s j) (Fin.ext (by show t.val / 1024 = _ / 1024; omega)) (Fin.ext (by show t.val / 128 % 8 * 128 + p.val = _ % 1024; omega))

set_option maxHeartbeats 4000000 in
theorem x_mat (c : Dev nD) (t : Fin 2048) (j : Fin 2880) : V m c main_v122 (ix2 t j) = rX m c j t := by
  unfold V V0 rX refT argX sg sgnW
  after_reads_at
  refine congrArg (· * nTok) (Finset.sum_congr rfl fun p _ => ?_)
  refine congrArg (_ * ·) (congrArg (m ((c : Thread nD τ).loc main_arg0)) ?_)
  exact congrArg₂ (fun (b : Fin 2) (s : Fin 1024) => ix3 b s j) (Fin.ext (by show t.val / 1024 = _ / 1024; omega)) (Fin.ext (by show t.val / 128 % 8 * 128 + p.val = _ % 1024; omega))

/-! ### The scales and the codes of the four -/

theorem o_scale_at (c : Dev nD) (t : Fin 2048) : V m c main_v62 (ix2 t 0) = refScale (rO m c t) := by
  rw [o_scales, RowQ.scales_apply]
  exact congrArg (fun f => scaleR (Finset.univ.sup f * c448)) (funext fun j => congrArg ab (o_mat m c t j))

theorem o_code_at (c : Dev nD) (t : Fin 2048) (j : Fin 2304) : V m c main_v67 (ix2 t j) = refCode (rO m c t) j := by
  rw [o_codes, RowQ.codesOf_apply, o_scale_at, o_mat]; rfl

theorem w_scale_at (c : Dev nD) (i : Fin 2880) : V m c main_v89 (ix2 0 i) = refScale (rW m c i) := by
  rw [w_scales, ColQ.scales_apply]
  exact congrArg (fun f => scaleR (Finset.univ.sup f * c448)) (funext fun o => congrArg ab (w_mat m c o i))

theorem w_code_at (c : Dev nD) (o : Fin 2304) (i : Fin 2880) : V m c main_v94 (ix2 o i) = refCode (rW m c i) o := by
  rw [w_codes, ColQ.codesOf_apply, w_scale_at, w_mat]; rfl

theorem t_scale_at (c : Dev nD) (o : Fin 2304) : V m c main_v116 (ix2 0 o) = refScale (rT m c o) := by
  rw [t_scales, ColQ.scales_apply]
  exact congrArg (fun f => scaleR (Finset.univ.sup f * c448)) (funext fun t => congrArg ab (t_mat m c t o))

theorem t_code_at (c : Dev nD) (t : Fin 2048) (o : Fin 2304) : V m c main_v121 (ix2 t o) = refCode (rT m c o) t := by
  rw [t_codes, ColQ.codesOf_apply, t_scale_at, t_mat]; rfl

theorem x_scale_at (c : Dev nD) (i : Fin 2880) : V m c main_v143 (ix2 0 i) = refScale (rX m c i) := by
  rw [x_scales, ColQ.scales_apply]
  exact congrArg (fun f => scaleR (Finset.univ.sup f * c448)) (funext fun t => congrArg ab (x_mat m c t i))

theorem x_code_at (c : Dev nD) (t : Fin 2048) (i : Fin 2880) : V m c main_v148 (ix2 t i) = refCode (rX m c i) t := by
  rw [x_codes, ColQ.codesOf_apply, x_scale_at, x_mat]; rfl

end Cert.ReferenceIdeal.Halo
-- ==== Proof.RefArr.lean ====
/-
  The reference's one gridless call: the two products and the four code matrices it leaves.
-/
module

public import proofs.«01_k».proof.Proof.RefMat
public import Idealize.ShloMosaic.Lib.Pipeline.ValueKit
public import Idealize.ShloMosaic.Lib.Pipeline.ReadBack

@[expose] public section

set_option maxRecDepth 16384

noncomputable section

namespace Cert.ReferenceIdeal.Halo

open Idealize.ShloMosaic Idealize.ShloMosaic.TcCoe Cert.ReferenceIdeal.Gen
open Idealize.SL Idealize.SL.Sem
open Cert.Halo

variable (m : (ℓ : Loc nD τ sig) → Buf (Elt Ideal) ℓ)

theorem idx : ∀ t : Fin cfg0.N, (win0_0.index t = ![0, 0] ∧ win0_1.index t = ![0, 0] ∧ win0_2.index t = ![0, 0] ∧ win0_3.index t = ![0, 0])
    ∧ win0_4.index t = ![0, 0] ∧ win0_5.index t = ![0, 0] ∧ win0_6.index t = ![0, 0] ∧ win0_7.index t = ![0, 0] ∧ win0_8.index t = ![0, 0]
    ∧ win0_9.index t = ![0, 0] := (by decide +kernel : ∀ t : Fin grid0.N, _)

/-! ### A whole buffer loaded or stored -/

theorem emb0 (y : S2048x2304.Idx) : r0_0.emb y = y := by blk_ext
theorem emb1 (y : S2304x2880.Idx) : r0_1.emb y = y := by blk_ext
theorem emb2 (y : S2048x2880.Idx) : r0_2.emb y = y := by blk_ext

theorem ld0 (x : Vec Ideal S2048x2304 .f32) : (View.ld x r0_0 : Vec Ideal S2048x2304 .f32) = x := funext fun y => congrArg x (emb0 y)
theorem ld1 (x : Vec Ideal S2304x2880 .f32) : (View.ld x r0_1 : Vec Ideal S2304x2880 .f32) = x := funext fun y => congrArg x (emb1 y)
theorem ld2 (x : Vec Ideal S2048x2880 .f32) : (View.ld x r0_2 : Vec Ideal S2048x2880 .f32) = x := funext fun y => congrArg x (emb2 y)

theorem st0 {e : EltTy} (p : Vec Ideal S2048x2304 e) (y : S2048x2304.Idx) : View.canon (Val := Elt Ideal) [⟨r0_0, p⟩] y = p y :=
  (congrArg _ (emb0 y).symm).trans (View.canon_cons_emb r0_0 p [] y)
theorem st1 {e : EltTy} (p : Vec Ideal S2304x2880 e) (y : S2304x2880.Idx) : View.canon (Val := Elt Ideal) [⟨r0_1, p⟩] y = p y :=
  (congrArg _ (emb1 y).symm).trans (View.canon_cons_emb r0_1 p [] y)
theorem st2 {e : EltTy} (p : Vec Ideal S2048x2880 e) (y : S2048x2880.Idx) : View.canon (Val := Elt Ideal) [⟨r0_2, p⟩] y = p y :=
  (congrArg _ (emb2 y).symm).trans (View.canon_cons_emb r0_2 p [] y)

/-! ### The payloads -/

theorem pay1_apply (x : Vec Ideal S2048x2304 .f32) (t : Fin 2048) (j : Fin 2304) : k0_pay1 x (ix2 t j) = x (ix2 t j) := by
  unfold k0_pay1; pointwise
theorem pay2_apply (x : Vec Ideal S2304x2880 .f32) (t : Fin 2304) (j : Fin 2880) : k0_pay2 x (ix2 t j) = x (ix2 t j) := by
  unfold k0_pay2; pointwise
theorem pay3_apply (x : Vec Ideal S2048x2304 .f32) (t : Fin 2048) (j : Fin 2304) : k0_pay3 x (ix2 t j) = x (ix2 t j) := by
  unfold k0_pay3; pointwise
theorem pay4_apply (x : Vec Ideal S2048x2880 .f32) (t : Fin 2048) (j : Fin 2880) : k0_pay4 x (ix2 t j) = x (ix2 t j) := by
  unfold k0_pay4; pointwise
theorem pay5_apply (x : Vec Ideal S2048x2304 .f32) (w : Vec Ideal S2304x2880 .f32) (t : Fin 2048) (i : Fin 2880) :
    k0_pay5 x w (ix2 t i) = ∑ j : Fin 2304, (x (ix2 t j) : EReal) * w (ix2 j i) := by
  unfold k0_pay5 k0_pay1 k0_pay2; pointwise
theorem pay6_apply (x : Vec Ideal S2048x2304 .f32) (w : Vec Ideal S2048x2880 .f32) (o : Fin 2304) (i : Fin 2880) :
    k0_pay6 x w (ix2 o i) = ∑ t : Fin 2048, (x (ix2 t o) : EReal) * w (ix2 t i) := by
  unfold k0_pay6 k0_pay3 k0_pay4; pointwise

/-! ### The input blocks are the whole matrices -/

theorem blk0 (c : Dev nD) (t : Fin cfg0.N) (y : S2048x2304.Idx) : iblk m c 0 t y = V m c main_v67 y := by blk_ext [iblk, idx t]
theorem blk1 (c : Dev nD) (t : Fin cfg0.N) (y : S2304x2880.Idx) : iblk m c 1 t y = V m c main_v94 y := by blk_ext [iblk, idx t]
theorem blk2 (c : Dev nD) (t : Fin cfg0.N) (y : S2048x2304.Idx) : iblk m c 2 t y = V m c main_v121 y := by blk_ext [iblk, idx t]
theorem blk3 (c : Dev nD) (t : Fin cfg0.N) (y : S2048x2880.Idx) : iblk m c 3 t y = V m c main_v148 y := by blk_ext [iblk, idx t]

/-! ### The arrays after the call -/

/-- The product of token `t`'s codes with the codes of the weights' column `i`. -/
def dxAcc (c : Dev nD) (t : Fin 2048) (i : Fin 2880) : EReal := ∑ j : Fin 2304, refCode (rO m c t) j * refCode (rW m c i) j
/-- The product of the codes of the gradient's column `o` with those of the inputs' column `i`. -/
def dwAcc (c : Dev nD) (o : Fin 2304) (i : Fin 2880) : EReal := ∑ t : Fin 2048, refCode (rT m c o) t * refCode (rX m c i) t

theorem arr4 (c : Dev nD) : (dats m 0 c).arrAt 4 cfg0.N = fun i : S2048x2880.Idx => dxAcc m c (i 0) (i 1) := by
  refine (dats m 0 c).arrAt_eq_of_covers 4 _ (by decide +kernel) fun t hf y => ?_
  blk_simp
  rw [after0_4]
  unfold out0_4
  rw [ld0, ld1]
  refine (st2 _ y).trans ((congrArg _ (eq_ix2 y)).trans ((pay5_apply _ _ (y 0) (y 1)).trans ?_))
  refine Finset.sum_congr rfl fun j _ => congrArg₂ (· * ·)
    ((blk0 m c t _).trans ((o_code_at m c _ j).trans (congrArg (fun k => refCode (rO m c k) j) (Fin.ext ?_))))
    ((blk1 m c t _).trans ((w_code_at m c j _).trans (congrArg (fun k => refCode (rW m c k) j) (Fin.ext ?_)))) <;> blk_simp [idx t]

theorem arr5 (c : Dev nD) : (dats m 0 c).arrAt 5 cfg0.N = fun i : S2304x2880.Idx => dwAcc m c (i 0) (i 1) := by
  refine (dats m 0 c).arrAt_eq_of_covers 5 _ (by decide +kernel) fun t hf y => ?_
  blk_simp
  rw [after0_5]
  unfold out0_5
  rw [ld0, ld2]
  refine (st1 _ y).trans ((congrArg _ (eq_ix2 y)).trans ((pay6_apply _ _ (y 0) (y 1)).trans ?_))
  refine Finset.sum_congr rfl fun j _ => congrArg₂ (· * ·)
    ((blk2 m c t _).trans ((t_code_at m c j _).trans (congrArg (fun k => refCode (rT m c k) j) (Fin.ext ?_))))
    ((blk3 m c t _).trans ((x_code_at m c j _).trans (congrArg (fun k => refCode (rX m c k) j) (Fin.ext ?_)))) <;> blk_simp [idx t]

theorem arr6 (c : Dev nD) : (dats m 0 c).arrAt 6 cfg0.N = fun i : S2048x2304.Idx => (V m c main_v67 i : EReal) := by
  refine (dats m 0 c).arrAt_eq_of_covers 6 _ (by decide +kernel) fun t hf y => ?_
  blk_simp
  rw [after0_6]
  unfold out0_6
  rw [ld0]
  refine (st0 _ y).trans ((congrArg _ (eq_ix2 y)).trans ((pay1_apply _ (y 0) (y 1)).trans ?_))
  rw [blk0]
  refine congrArg (V m c main_v67) ?_
  blk_ext [idx t]

theorem arr7 (c : Dev nD) : (dats m 0 c).arrAt 7 cfg0.N = fun i : S2304x2880.Idx => (V m c main_v94 i : EReal) := by
  refine (dats m 0 c).arrAt_eq_of_covers 7 _ (by decide +kernel) fun t hf y => ?_
  blk_simp
  rw [after0_7]
  unfold out0_7
  rw [ld1]
  refine (st1 _ y).trans ((congrArg _ (eq_ix2 y)).trans ((pay2_apply _ (y 0) (y 1)).trans ?_))
  rw [blk1]
  refine congrArg (V m c main_v94) ?_
  blk_ext [idx t]

theorem arr8 (c : Dev nD) : (dats m 0 c).arrAt 8 cfg0.N = fun i : S2048x2304.Idx => (V m c main_v121 i : EReal) := by
  refine (dats m 0 c).arrAt_eq_of_covers 8 _ (by decide +kernel) fun t hf y => ?_
  blk_simp
  rw [after0_8]
  unfold out0_8
  rw [ld0]
  refine (st0 _ y).trans ((congrArg _ (eq_ix2 y)).trans ((pay3_apply _ (y 0) (y 1)).trans ?_))
  rw [blk2]
  refine congrArg (V m c main_v121) ?_
  blk_ext [idx t]

theorem arr9 (c : Dev nD) : (dats m 0 c).arrAt 9 cfg0.N = fun i : S2048x2880.Idx => (V m c main_v148 i : EReal) := by
  refine (dats m 0 c).arrAt_eq_of_covers 9 _ (by decide +kernel) fun t hf y => ?_
  blk_simp
  rw [after0_9]
  unfold out0_9
  rw [ld2]
  refine (st2 _ y).trans ((congrArg _ (eq_ix2 y)).trans ((pay4_apply _ (y 0) (y 1)).trans ?_))
  rw [blk3]
  refine congrArg (V m c main_v148) ?_
  blk_ext [idx t]

end Cert.ReferenceIdeal.Halo
-- ==== Proof.RefRun.lean ====
/-
  The reference's ten results as functions of its arguments, at the end of every run.
-/
module

public import proofs.«01_k».proof.Proof.RefArr

@[expose] public section

set_option maxRecDepth 16384

noncomputable section

namespace Cert.ReferenceIdeal.Halo

open Idealize.ShloMosaic Idealize.ShloMosaic.TcCoe Cert.ReferenceIdeal.Gen
open Idealize.SL Idealize.SL.Sem
open Cert.Halo

variable (m : (ℓ : Loc nD τ sig) → Buf (Elt Ideal) ℓ) (ρ : Dev nD → PrngReg)

/-- The contents after the call. -/
def X (c : Dev nD) : Valuation τ sig (Elt Ideal) := Pipeline.withArrays spec0 c (V0 m c) fun w => (dats m 0 c).arrAt w cfg0.N
/-- The contents at the end. -/
def U (c : Dev nD) : Valuation τ sig (Elt Ideal) := StableHlo.after hostOps1 (X m c)

theorem X_arr (c : Dev nD) (w : Fin cfg0.W) : X m c (Proc.devRef .tc (Pipeline.arrRef spec0 w)) = (dats m 0 c).arrAt w cfg0.N := by
  unfold X; exact Pipeline.withArrays_arr spec0 launch0.win.arr_inj c _ _ w
theorem X_of (c : Dev nD) (b : Ref sig .tc) (h : ∀ w, Pipeline.arrRef spec0 w ≠ b) : X m c (Proc.devRef .tc b) = V m c b := by
  unfold X; exact Pipeline.withArrays_of_ne spec0 c _ _ b h

theorem u_of (c : Dev nD) (b : Ref sig .tc) : Pipeline.afterTail₀ cfgs (dats m) 0 (V0 m) [hostOps1] c b = U m c (Proc.devRef .tc b) := by
  unfold Pipeline.afterTail₀ U X
  simp only [List.flatten_cons, List.flatten_nil, List.append_nil]

/-- Token `s` of batch `b` in the flat order. -/
def tok (b : Fin 2) (s : Fin 1024) : Fin 2048 := ⟨b.val * 1024 + s.val, by omega⟩

theorem x_o (c : Dev nD) (t : Fin 2048) : X m c (Proc.devRef .tc main_v62) (ix2 t 0) = refScale (rO m c t) :=
  (congrFun (X_of m c main_v62 (by decide)) _).trans (o_scale_at m c t)
theorem x_w (c : Dev nD) (i : Fin 2880) : X m c (Proc.devRef .tc main_v89) (ix2 0 i) = refScale (rW m c i) :=
  (congrFun (X_of m c main_v89 (by decide)) _).trans (w_scale_at m c i)
theorem x_t (c : Dev nD) (o : Fin 2304) : X m c (Proc.devRef .tc main_v116) (ix2 0 o) = refScale (rT m c o) :=
  (congrFun (X_of m c main_v116 (by decide)) _).trans (t_scale_at m c o)
theorem x_x (c : Dev nD) (i : Fin 2880) : X m c (Proc.devRef .tc main_v143) (ix2 0 i) = refScale (rX m c i) :=
  (congrFun (X_of m c main_v143 (by decide)) _).trans (x_scale_at m c i)
theorem x_dx (c : Dev nD) (t : Fin 2048) (i : Fin 2880) : X m c (Proc.devRef .tc main_v149_0) (ix2 t i) = dxAcc m c t i :=
  congrFun ((X_arr m c 4).trans (arr4 m c)) (ix2 t i)
theorem x_dw (c : Dev nD) (o : Fin 2304) (i : Fin 2880) : X m c (Proc.devRef .tc main_v149_1) (ix2 o i) = dwAcc m c o i :=
  congrFun ((X_arr m c 5).trans (arr5 m c)) (ix2 o i)
theorem x_oc (c : Dev nD) (t : Fin 2048) (j : Fin 2304) : X m c (Proc.devRef .tc main_v149_2) (ix2 t j) = refCode (rO m c t) j :=
  (congrFun ((X_arr m c 6).trans (arr6 m c)) (ix2 t j)).trans (o_code_at m c t j)
theorem x_wc (c : Dev nD) (o : Fin 2304) (i : Fin 2880) : X m c (Proc.devRef .tc main_v149_3) (ix2 o i) = refCode (rW m c i) o :=
  (congrFun ((X_arr m c 7).trans (arr7 m c)) (ix2 o i)).trans (w_code_at m c o i)
theorem x_tc (c : Dev nD) (t : Fin 2048) (o : Fin 2304) : X m c (Proc.devRef .tc main_v149_4) (ix2 t o) = refCode (rT m c o) t :=
  (congrFun ((X_arr m c 8).trans (arr8 m c)) (ix2 t o)).trans (t_code_at m c t o)
theorem x_xc (c : Dev nD) (t : Fin 2048) (i : Fin 2880) : X m c (Proc.devRef .tc main_v149_5) (ix2 t i) = refCode (rX m c i) t :=
  (congrFun ((X_arr m c 9).trans (arr9 m c)) (ix2 t i)).trans (x_code_at m c t i)

/-! ### The results -/

theorem u_dx (c : Dev nD) (b : Fin 2) (s : Fin 1024) (i : Fin 2880) : U m c (Proc.devRef .tc main_v160) (ix3 b s i)
    = dxAcc m c (tok b s) i * refScale (rO m c (tok b s)) * refScale (rW m c i) := by
  rw [← x_dx, ← x_o, ← x_w]
  unfold U tok
  after_reads_at

theorem u_dw (c : Dev nD) (o : Fin 2304) (i : Fin 2880) : U m c (Proc.devRef .tc main_v159) (ix2 o i)
    = dwAcc m c o i * refScale (rT m c o) * refScale (rX m c i) := by
  rw [← x_dw, ← x_t, ← x_x]
  unfold U
  after_reads_at

theorem u_dyo (c : Dev nD) (b : Fin 2) (s : Fin 1024) (j : Fin 2304) :
    U m c (Proc.devRef .tc main_v161) (ix3 b s j) = refCode (rO m c (tok b s)) j := by
  rw [← x_oc]; unfold U tok; after_reads_at

theorem u_dyos (c : Dev nD) (b : Fin 2) (s : Fin 1024) : U m c (Proc.devRef .tc main_v162) (ix2 b s) = refScale (rO m c (tok b s)) := by
  rw [← x_o]; unfold U tok; after_reads_at

theorem u_wc (c : Dev nD) (o : Fin 2304) (i : Fin 2880) : U m c (Proc.devRef .tc main_v149_3) (ix2 o i) = refCode (rW m c i) o := by
  rw [← x_wc]; unfold U; after_reads_at

theorem u_ws (c : Dev nD) (i : Fin 2880) : U m c (Proc.devRef .tc main_v163) (ix1 i) = refScale (rW m c i) := by
  rw [← x_w]; unfold U; after_reads_at

theorem u_dyt (c : Dev nD) (b : Fin 2) (s : Fin 1024) (o : Fin 2304) :
    U m c (Proc.devRef .tc main_v164) (ix3 b s o) = refCode (rT m c o) (tok b s) := by
  rw [← x_tc]; unfold U tok; after_reads_at

theorem u_dyts (c : Dev nD) (o : Fin 2304) : U m c (Proc.devRef .tc main_v165) (ix1 o) = refScale (rT m c o) := by
  rw [← x_t]; unfold U; after_reads_at

theorem u_xc (c : Dev nD) (b : Fin 2) (s : Fin 1024) (i : Fin 2880) :
    U m c (Proc.devRef .tc main_v166) (ix3 b s i) = refCode (rX m c i) (tok b s) := by
  rw [← x_xc]; unfold U tok; after_reads_at

theorem u_xs (c : Dev nD) (i : Fin 2880) : U m c (Proc.devRef .tc main_v167) (ix1 i) = refScale (rX m c i) := by
  rw [← x_x]; unfold U; after_reads_at

/-! ### The run -/

/-- Every run of the reference ends with the results at `U`, the weights' codes at the call's array and the arguments unchanged. -/
theorem run_at : θ_run defs (onTc (τ := τ) (main (F := Ideal))) ⟨m, fun _ => 0, ρ⟩ (fun r => ∀ c : Dev nD,
      (∀ b : Ref sig .tc, b ∈ Pipeline.restRefs sig spec0 → r.2.mem ((c.tc : Thread nD τ).loc b) = U m c (Proc.devRef .tc b))
      ∧ r.2.mem ((c.tc : Thread nD τ).loc main_v149_3) = X m c (Proc.devRef .tc main_v149_3)) :=
  (θ_run defs _ _).mono (fun _ h c => ⟨fun b hb => ((h c).2 b hb).trans (u_of m c b), ((h c).1 7).trans (X_arr m c 7).symm⟩) (run_main m ρ)

end Cert.ReferenceIdeal.Halo
-- ==== Proof.LitDef.lean ====
/-
  The two constant matrices of the kernel, read entry by entry: what is checked of each run of 4096 entries.
-/
module

public import proofs.«01_k».proof.KernelIdeal
public import proofs.«01_k».proof.Proof.Sign

@[expose] public section

noncomputable section

namespace Cert.Halo

open Cert.KernelIdeal

/-- Entry `i` of the matrix of order 256 is the sign of its row and column. -/
def good0 (i : ℕ) : Bool := (lit0t i).toNat == bif par ((i / 256) &&& (i % 256)) then 0xBF80 else 0x3F80

/-- Entry `i` of the matrix of two blocks of order 128 is the sign of its row and column within its block, and a zero (of either sign)
off the blocks. -/
def good1 (i : ℕ) : Bool :=
  bif i / 256 / 128 == i % 256 / 128 then (lit1t i).toNat == bif par ((i / 256 % 128) &&& (i % 256 % 128)) then 0xBF80 else 0x3F80
  else (lit1t i).toNat % 0x8000 == 0

/-- The entries `4096 h … 4096 h + 4095` pass `g`. -/
def run (g : ℕ → Bool) (h : ℕ) : Bool := (List.range 4096).all fun r => g (4096 * h + r)

theorem of_run {g : ℕ → Bool} {h r : ℕ} (e : run g h = true) (hr : r < 4096) : g (4096 * h + r) = true :=
  List.all_eq_true.mp e r (List.mem_range.mpr hr)

end Cert.Halo
-- ==== Proof.LitA0.lean ====
/-
  The matrix of order 256: runs 0 to 3 of its entries, checked by evaluation.
-/
module

public import proofs.«01_k».proof.Proof.LitDef

@[expose] public section

set_option maxRecDepth 16384

namespace Cert.Halo

theorem run0_0 : run good0 0 = true := by decide +kernel
theorem run0_1 : run good0 1 = true := by decide +kernel
theorem run0_2 : run good0 2 = true := by decide +kernel
theorem run0_3 : run good0 3 = true := by decide +kernel

end Cert.Halo
-- ==== Proof.LitA1.lean ====
/-
  The matrix of order 256: runs 4 to 7 of its entries, checked by evaluation.
-/
module

public import proofs.«01_k».proof.Proof.LitDef

@[expose] public section

set_option maxRecDepth 16384

namespace Cert.Halo

theorem run0_4 : run good0 4 = true := by decide +kernel
theorem run0_5 : run good0 5 = true := by decide +kernel
theorem run0_6 : run good0 6 = true := by decide +kernel
theorem run0_7 : run good0 7 = true := by decide +kernel

end Cert.Halo
-- ==== Proof.LitA2.lean ====
/-
  The matrix of order 256: runs 8 to 11 of its entries, checked by evaluation.
-/
module

public import proofs.«01_k».proof.Proof.LitDef

@[expose] public section

set_option maxRecDepth 16384

namespace Cert.Halo

theorem run0_8 : run good0 8 = true := by decide +kernel
theorem run0_9 : run good0 9 = true := by decide +kernel
theorem run0_10 : run good0 10 = true := by decide +kernel
theorem run0_11 : run good0 11 = true := by decide +kernel

end Cert.Halo
-- ==== Proof.LitA3.lean ====
/-
  The matrix of order 256: runs 12 to 15 of its entries, checked by evaluation.
-/
module

public import proofs.«01_k».proof.Proof.LitDef

@[expose] public section

set_option maxRecDepth 16384

namespace Cert.Halo

theorem run0_12 : run good0 12 = true := by decide +kernel
theorem run0_13 : run good0 13 = true := by decide +kernel
theorem run0_14 : run good0 14 = true := by decide +kernel
theorem run0_15 : run good0 15 = true := by decide +kernel

end Cert.Halo
-- ==== Proof.LitB0.lean ====
/-
  The matrix of two blocks: runs 0 to 3 of its entries, checked by evaluation.
-/
module

public import proofs.«01_k».proof.Proof.LitDef

@[expose] public section

set_option maxRecDepth 16384

namespace Cert.Halo

theorem run1_0 : run good1 0 = true := by decide +kernel
theorem run1_1 : run good1 1 = true := by decide +kernel
theorem run1_2 : run good1 2 = true := by decide +kernel
theorem run1_3 : run good1 3 = true := by decide +kernel

end Cert.Halo
-- ==== Proof.LitB1.lean ====
/-
  The matrix of two blocks: runs 4 to 7 of its entries, checked by evaluation.
-/
module

public import proofs.«01_k».proof.Proof.LitDef

@[expose] public section

set_option maxRecDepth 16384

namespace Cert.Halo

theorem run1_4 : run good1 4 = true := by decide +kernel
theorem run1_5 : run good1 5 = true := by decide +kernel
theorem run1_6 : run good1 6 = true := by decide +kernel
theorem run1_7 : run good1 7 = true := by decide +kernel

end Cert.Halo
-- ==== Proof.LitB2.lean ====
/-
  The matrix of two blocks: runs 8 to 11 of its entries, checked by evaluation.
-/
module

public import proofs.«01_k».proof.Proof.LitDef

@[expose] public section

set_option maxRecDepth 16384

namespace Cert.Halo

theorem run1_8 : run good1 8 = true := by decide +kernel
theorem run1_9 : run good1 9 = true := by decide +kernel
theorem run1_10 : run good1 10 = true := by decide +kernel
theorem run1_11 : run good1 11 = true := by decide +kernel

end Cert.Halo
-- ==== Proof.LitB3.lean ====
/-
  The matrix of two blocks: runs 12 to 15 of its entries, checked by evaluation.
-/
module

public import proofs.«01_k».proof.Proof.LitDef

@[expose] public section

set_option maxRecDepth 16384

namespace Cert.Halo

theorem run1_12 : run good1 12 = true := by decide +kernel
theorem run1_13 : run good1 13 = true := by decide +kernel
theorem run1_14 : run good1 14 = true := by decide +kernel
theorem run1_15 : run good1 15 = true := by decide +kernel

end Cert.Halo
-- ==== Proof.Lits.lean ====
/-
  The two constant matrices of the kernel are the signs of a Hadamard matrix of order 256, and of two of order 128 on the diagonal.
-/
module

public import proofs.«01_k».proof.Proof.Equation
public import proofs.«01_k».proof.Proof.LitA0
public import proofs.«01_k».proof.Proof.LitA1
public import proofs.«01_k».proof.Proof.LitA2
public import proofs.«01_k».proof.Proof.LitA3
public import proofs.«01_k».proof.Proof.LitB0
public import proofs.«01_k».proof.Proof.LitB1
public import proofs.«01_k».proof.Proof.LitB2
public import proofs.«01_k».proof.Proof.LitB3

@[expose] public section

set_option maxRecDepth 16384

noncomputable section

namespace Cert.Halo

open Idealize.ShloMosaic Cert.KernelIdeal

theorem runs0 : ∀ h : Fin 16, run good0 h.val = true
  | ⟨0, _⟩ => run0_0 | ⟨1, _⟩ => run0_1 | ⟨2, _⟩ => run0_2 | ⟨3, _⟩ => run0_3
  | ⟨4, _⟩ => run0_4 | ⟨5, _⟩ => run0_5 | ⟨6, _⟩ => run0_6 | ⟨7, _⟩ => run0_7
  | ⟨8, _⟩ => run0_8 | ⟨9, _⟩ => run0_9 | ⟨10, _⟩ => run0_10 | ⟨11, _⟩ => run0_11
  | ⟨12, _⟩ => run0_12 | ⟨13, _⟩ => run0_13 | ⟨14, _⟩ => run0_14 | ⟨15, _⟩ => run0_15
  | ⟨n + 16, h⟩ => absurd h (by omega)

theorem runs1 : ∀ h : Fin 16, run good1 h.val = true
  | ⟨0, _⟩ => run1_0 | ⟨1, _⟩ => run1_1 | ⟨2, _⟩ => run1_2 | ⟨3, _⟩ => run1_3
  | ⟨4, _⟩ => run1_4 | ⟨5, _⟩ => run1_5 | ⟨6, _⟩ => run1_6 | ⟨7, _⟩ => run1_7
  | ⟨8, _⟩ => run1_8 | ⟨9, _⟩ => run1_9 | ⟨10, _⟩ => run1_10 | ⟨11, _⟩ => run1_11
  | ⟨12, _⟩ => run1_12 | ⟨13, _⟩ => run1_13 | ⟨14, _⟩ => run1_14 | ⟨15, _⟩ => run1_15
  | ⟨n + 16, h⟩ => absurd h (by omega)

theorem good_of {g : ℕ → Bool} (e : ∀ h : Fin 16, run g h.val = true) (i : ℕ) (hi : i < 65536) : g i = true := by
  have h := of_run (e ⟨i / 4096, by omega⟩) (Nat.mod_lt i (by omega : 0 < 4096))
  rwa [Nat.div_add_mod] at h

/-- The matrix of order 256, as numbers. -/
theorem lit0_sg (p q : Fin 256) : Ideal.ofBits .bf16 (lit0 (⟨p.val * 256 + q.val, by omega⟩ : Fin 65536)) = sg p.val q.val := by
  have h := good_of runs0 (p.val * 256 + q.val) (by omega)
  unfold good0 at h
  rw [(by omega : (p.val * 256 + q.val) / 256 = p.val), (by omega : (p.val * 256 + q.val) % 256 = q.val)] at h
  rw [sg_par _ _ p.isLt]
  refine congrArg (Ideal.ofBits .bf16) (BitVec.eq_of_toNat_eq ((beq_iff_eq.mp h).trans ?_))
  cases par (p.val &&& q.val) <;> rfl

/-- The matrix of two blocks, as numbers. -/
theorem lit1_sg (p q : Fin 256) : Ideal.ofBits .bf16 (lit1 (⟨p.val * 256 + q.val, by omega⟩ : Fin 65536))
    = if p.val / 128 = q.val / 128 then sg (p.val % 128) (q.val % 128) else 0 := by
  have h := good_of runs1 (p.val * 256 + q.val) (by omega)
  unfold good1 at h
  rw [(by omega : (p.val * 256 + q.val) / 256 = p.val), (by omega : (p.val * 256 + q.val) % 256 = q.val)] at h
  change Ideal.ofBits .bf16 (lit1t (p.val * 256 + q.val)) = _
  generalize lit1t (p.val * 256 + q.val) = v at h
  by_cases e : p.val / 128 = q.val / 128
  · rw [if_pos e, sg_par _ _ (by omega)]
    rw [beq_iff_eq.mpr e] at h
    refine congrArg (Ideal.ofBits .bf16) (BitVec.eq_of_toNat_eq ((beq_iff_eq.mp h).trans ?_))
    cases par (p.val % 128 &&& q.val % 128) <;> rfl
  · rw [if_neg e]
    rw [beq_eq_false_iff_ne.mpr e] at h
    have hv : v.toNat % 0x8000 = 0 := beq_iff_eq.mp h
    have hl : v.toNat < 65536 := v.isLt
    rcases (by omega : v.toNat = 0 ∨ v.toNat = 0x8000) with h0 | h0
    · exact (congrArg (Ideal.ofBits .bf16) (BitVec.eq_of_toNat_eq h0)).trans bf_zero
    · exact (congrArg (Ideal.ofBits .bf16) (BitVec.eq_of_toNat_eq h0)).trans bf_negzero

end Cert.Halo
-- ==== Proof.Same.lean ====
/-
  The ten results of the kernel are the ten of the reference, where every argument is finite.
-/
module

public import proofs.«01_k».proof.Proof.KVal
public import proofs.«01_k».proof.Proof.RefRun
public import proofs.«01_k».proof.Proof.Lits
public import proofs.«01_k».proof.Pre_finite

@[expose] public section

set_option maxRecDepth 16384

noncomputable section

namespace Cert.Halo

open Idealize.ShloMosaic Idealize.ShloMosaic.TcCoe
open Idealize.SL Idealize.SL.Sem

/-- The magnitudes that pass the finiteness test are at most the largest finite bf16 number. -/
theorem ab_of_test {x : EReal} (h : Ideal.cmp .ole (FloatOps.absf (F := Ideal) (φ := .bf16) x) (Ideal.ofBits .bf16 0x7F7F#16) = 1#1) :
    ab x ≤ (big : EReal) := by
  rw [big_eq] at h
  by_contra hx
  have : Ideal.cmp .ole (ab x) (big : EReal) = 0#1 := by
    unfold Ideal.cmp
    simp only [hx, decide_false]
    rfl
  exact absurd (this.symm.trans h) (by decide)

section
variable [Cert.Pre_finite.Facts] (a : FVec Ideal Cert.Pre_finite.S2x1024x2880 .bf16) (w : FVec Ideal Cert.Pre_finite.S2304x2880 .bf16)
  (d : FVec Ideal Cert.Pre_finite.S2x1024x2304 .bf16)

theorem fin_a (h : (Cert.Pre_finite.fn (F := Ideal) a w d).1 = fun _ => 1#1) (y) : ab (a y) ≤ (big : EReal) := ab_of_test (congrFun h y)
theorem fin_w (h : (Cert.Pre_finite.fn (F := Ideal) a w d).2.1 = fun _ => 1#1) (y) : ab (w y) ≤ (big : EReal) := ab_of_test (congrFun h y)
theorem fin_d (h : (Cert.Pre_finite.fn (F := Ideal) a w d).2.2 = fun _ => 1#1) (y) : ab (d y) ≤ (big : EReal) := ab_of_test (congrFun h y)
end

/-! Two arrays are equal where their elements are. -/

theorem ext3 {P Q R : ℕ} {f g : (⟨3, ![P, Q, R]⟩ : Shape).Idx → EReal} (h : ∀ a b c, f (ix3 a b c) = g (ix3 a b c)) : f = g :=
  funext fun y => by rw [eq_ix3 y]; exact h _ _ _
theorem ext2 {P Q : ℕ} {f g : (⟨2, ![P, Q]⟩ : Shape).Idx → EReal} (h : ∀ a b, f (ix2 a b) = g (ix2 a b)) : f = g :=
  funext fun y => by rw [eq_ix2 y]; exact h _ _
theorem ext1 {P : ℕ} {f g : (⟨1, ![P]⟩ : Shape).Idx → EReal} (h : ∀ a, f (ix1 a) = g (ix1 a)) : f = g :=
  funext fun y => by rw [eq_ix1 y]; exact h _

/-- What the two launches share on a device: equal arguments, all finite. -/
structure Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1) : Prop where
  x : ∀ t i, Cert.ReferenceIdeal.Halo.argX m' c t i = Cert.KernelIdeal.Halo.argX m c t i
  w : ∀ o i, Cert.ReferenceIdeal.Halo.argW m' c o i = Cert.KernelIdeal.Halo.argW m c o i
  d : ∀ t o, Cert.ReferenceIdeal.Halo.argD m' c t o = Cert.KernelIdeal.Halo.argD m c t o
  finx : ∀ t i, ab (Cert.KernelIdeal.Halo.argX m c t i) ≤ (big : EReal)
  finw : ∀ o i, ab (Cert.KernelIdeal.Halo.argW m c o i) ≤ (big : EReal)
  find : ∀ t o, ab (Cert.KernelIdeal.Halo.argD m c t o) ≤ (big : EReal)

namespace Agree

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev 1} (A : Agree m m' c)
include A

/-! ### Rows: the kernel's scales and codes are the reference's -/

theorem rowO (t : Fin 2048) : rowScale nOut (Cert.KernelIdeal.Halo.rO m c t) = refScale (Cert.ReferenceIdeal.Halo.rO m' c t)
    ∧ ∀ j, rowCode nOut (Cert.KernelIdeal.Halo.rO m c t) j = refCode (Cert.ReferenceIdeal.Halo.rO m' c t) j := by
  unfold Cert.ReferenceIdeal.Halo.rO
  simp only [A.d]
  exact quant_o (A.find t) _ lit0_sg

theorem rowW (i : Fin 2880) : rowScale nOut (Cert.KernelIdeal.Halo.rW m c i) = refScale (Cert.ReferenceIdeal.Halo.rW m' c i)
    ∧ ∀ j, rowCode nOut (Cert.KernelIdeal.Halo.rW m c i) j = refCode (Cert.ReferenceIdeal.Halo.rW m' c i) j := by
  unfold Cert.ReferenceIdeal.Halo.rW
  simp only [A.w]
  exact quant_o (fun o => A.finw o i) _ lit0_sg

theorem rowT (o : Fin 2304) : rowScale nTok (Cert.KernelIdeal.Halo.rT m c o) = refScale (Cert.ReferenceIdeal.Halo.rT m' c o)
    ∧ ∀ j, rowCode nTok (Cert.KernelIdeal.Halo.rT m c o) j = refCode (Cert.ReferenceIdeal.Halo.rT m' c o) j := by
  unfold Cert.ReferenceIdeal.Halo.rT
  simp only [A.d]
  refine quant_t (fun t => A.find t o) _ fun p q => (lit1_sg q p).trans ?_
  simp only [eq_comm (a := q.val / 128), sg_comm (q.val % 128)]

theorem rowX (i : Fin 2880) : rowScale nTok (Cert.KernelIdeal.Halo.rX m c i) = refScale (Cert.ReferenceIdeal.Halo.rX m' c i)
    ∧ ∀ j, rowCode nTok (Cert.KernelIdeal.Halo.rX m c i) j = refCode (Cert.ReferenceIdeal.Halo.rX m' c i) j := by
  unfold Cert.ReferenceIdeal.Halo.rX
  simp only [A.x]
  exact quant_t (fun t => A.finx t i) _ lit1_sg

/-! ### The results -/

variable (ρ : Dev Cert.KernelIdeal.nD → PrngReg)

/-- The gradient of the inputs. -/
theorem dx : (Cert.ReferenceIdeal.Halo.U m' c (Proc.devRef .tc Cert.ReferenceIdeal.main_v160) : (⟨3, ![2, 1024, 2880]⟩ : Shape).Idx → EReal)
    = Cert.KernelIdeal.Gen.W7 m ρ c (Proc.devRef .tc Cert.KernelIdeal.main_v8) :=
  ext3 fun b s i => by
    refine (Cert.ReferenceIdeal.Halo.u_dx m' c b s i).trans (Eq.trans ?_ (Cert.KernelIdeal.Halo.res_dx m ρ c b s i).symm)
    rw [(A.rowO _).1, (A.rowW i).1]
    refine congrArg (fun z : EReal => z * _ * _) (Finset.sum_congr rfl fun j _ => ?_)
    rw [(A.rowO _).2, (A.rowW i).2, mul_comm]
    rfl

/-- The gradient of the weights. -/
theorem dw : (Cert.ReferenceIdeal.Halo.U m' c (Proc.devRef .tc Cert.ReferenceIdeal.main_v159) : (⟨2, ![2304, 2880]⟩ : Shape).Idx → EReal)
    = Cert.KernelIdeal.Gen.W7 m ρ c (Proc.devRef .tc Cert.KernelIdeal.main_v9) :=
  ext2 fun o i => by
    refine (Cert.ReferenceIdeal.Halo.u_dw m' c o i).trans (Eq.trans ?_ (Cert.KernelIdeal.Halo.res_dw m ρ c o i).symm)
    rw [(A.rowT o).1, (A.rowX i).1]
    refine congrArg (fun z : EReal => z * _ * _) (Finset.sum_congr rfl fun j _ => ?_)
    rw [(A.rowT o).2, (A.rowX i).2, mul_comm]

/-- The codes of the output gradient, by tokens. -/
theorem dyo : (Cert.ReferenceIdeal.Halo.U m' c (Proc.devRef .tc Cert.ReferenceIdeal.main_v161) : (⟨3, ![2, 1024, 2304]⟩ : Shape).Idx → EReal)
    = Cert.KernelIdeal.Gen.W7 m ρ c (Proc.devRef .tc Cert.KernelIdeal.main_v10) :=
  ext3 fun b s j => (Cert.ReferenceIdeal.Halo.u_dyo m' c b s j).trans
    (((A.rowO _).2 j).symm.trans (Cert.KernelIdeal.Halo.res_dyo m ρ c b s j).symm)

/-- Their scales. -/
theorem dyos : (Cert.ReferenceIdeal.Halo.U m' c (Proc.devRef .tc Cert.ReferenceIdeal.main_v162) : (⟨2, ![2, 1024]⟩ : Shape).Idx → EReal)
    = Cert.KernelIdeal.Gen.W7 m ρ c (Proc.devRef .tc Cert.KernelIdeal.main_v11) :=
  ext2 fun b s => (Cert.ReferenceIdeal.Halo.u_dyos m' c b s).trans
    ((A.rowO _).1.symm.trans (Cert.KernelIdeal.Halo.res_dyos m ρ c b s).symm)

/-- The codes of the weights. -/
theorem wc : (Cert.ReferenceIdeal.Halo.X m' c (Proc.devRef .tc Cert.ReferenceIdeal.main_v149_3) : (⟨2, ![2304, 2880]⟩ : Shape).Idx → EReal)
    = Cert.KernelIdeal.Gen.W7 m ρ c (Proc.devRef .tc Cert.KernelIdeal.main_v12) :=
  ext2 fun o i => (Cert.ReferenceIdeal.Halo.x_wc m' c o i).trans
    (((A.rowW i).2 o).symm.trans (Cert.KernelIdeal.Halo.res_wc m ρ c o i).symm)

/-- Their scales. -/
theorem ws : (Cert.ReferenceIdeal.Halo.U m' c (Proc.devRef .tc Cert.ReferenceIdeal.main_v163) : (⟨1, ![2880]⟩ : Shape).Idx → EReal)
    = Cert.KernelIdeal.Gen.W7 m ρ c (Proc.devRef .tc Cert.KernelIdeal.main_v13) :=
  ext1 fun i => (Cert.ReferenceIdeal.Halo.u_ws m' c i).trans ((A.rowW i).1.symm.trans (Cert.KernelIdeal.Halo.res_ws m ρ c i).symm)

/-- The codes of the output gradient, by outputs. -/
theorem dyt : (Cert.ReferenceIdeal.Halo.U m' c (Proc.devRef .tc Cert.ReferenceIdeal.main_v164) : (⟨3, ![2, 1024, 2304]⟩ : Shape).Idx → EReal)
    = Cert.KernelIdeal.Gen.W7 m ρ c (Proc.devRef .tc Cert.KernelIdeal.main_v14) :=
  ext3 fun b s o => (Cert.ReferenceIdeal.Halo.u_dyt m' c b s o).trans
    (((A.rowT o).2 _).symm.trans (Cert.KernelIdeal.Halo.res_dyt m ρ c b s o).symm)

/-- Their scales. -/
theorem dyts : (Cert.ReferenceIdeal.Halo.U m' c (Proc.devRef .tc Cert.ReferenceIdeal.main_v165) : (⟨1, ![2304]⟩ : Shape).Idx → EReal)
    = Cert.KernelIdeal.Gen.W7 m ρ c (Proc.devRef .tc Cert.KernelIdeal.main_v15) :=
  ext1 fun o => (Cert.ReferenceIdeal.Halo.u_dyts m' c o).trans ((A.rowT o).1.symm.trans (Cert.KernelIdeal.Halo.res_dyts m ρ c o).symm)

/-- The codes of the inputs. -/
theorem xc : (Cert.ReferenceIdeal.Halo.U m' c (Proc.devRef .tc Cert.ReferenceIdeal.main_v166) : (⟨3, ![2, 1024, 2880]⟩ : Shape).Idx → EReal)
    = Cert.KernelIdeal.Gen.W7 m ρ c (Proc.devRef .tc Cert.KernelIdeal.main_v16) :=
  ext3 fun b s i => (Cert.ReferenceIdeal.Halo.u_xc m' c b s i).trans
    (((A.rowX i).2 _).symm.trans (Cert.KernelIdeal.Halo.res_xc m ρ c b s i).symm)

/-- Their scales. -/
theorem xs : (Cert.ReferenceIdeal.Halo.U m' c (Proc.devRef .tc Cert.ReferenceIdeal.main_v167) : (⟨1, ![2880]⟩ : Shape).Idx → EReal)
    = Cert.KernelIdeal.Gen.W7 m ρ c (Proc.devRef .tc Cert.KernelIdeal.main_v17) :=
  ext1 fun i => (Cert.ReferenceIdeal.Halo.u_xs m' c i).trans ((A.rowX i).1.symm.trans (Cert.KernelIdeal.Halo.res_xs m ρ c i).symm)

end Agree

end Cert.Halo
-- ==== Proof.lean ====
module

public import proofs.«01_k».proof.Defs
public import proofs.«01_k».proof.Proof.Gen.Kernel.Frame
public import proofs.«01_k».proof.Proof.KRun
public import proofs.«01_k».proof.Proof.Same

@[expose] public section

set_option maxRecDepth 16384

open Idealize.ShloMosaic Idealize.SL.Sem Cert.Halo

theorem preFacts : Cert.Pre_finite.Facts := ⟨by decide, by decide, by decide⟩

/-- On finite arguments the kernel and the reference end with the same ten results. -/
theorem results : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  have A : ∀ c, Agree m m' c := fun c =>
    { x := fun _ _ => congrFun (hargs c).1 _
      w := fun _ _ => congrFun (hargs c).2.1 _
      d := fun _ _ => congrFun (hargs c).2.2 _
      finx := fun _ _ => @fin_a preFacts _ _ _ (hpre c).1 _
      finw := fun _ _ => @fin_w preFacts _ _ _ (hpre c).2.1 _
      find := fun _ _ => @fin_d preFacts _ _ _ (hpre c).2.2 _ }
  refine ⟨_, _, _, _, _, _, _, _, _, _,
    θ_run_mono (θ_run_and (Cert.KernelIdeal.Halo.run_at m g) (Cert.KernelIdeal.Gen.unchanged m g)) fun r hr c =>
      ⟨hr.1 c Cert.KernelIdeal.main_v8 (by decide), hr.1 c Cert.KernelIdeal.main_v9 (by decide),
        hr.1 c Cert.KernelIdeal.main_v10 (by decide), hr.1 c Cert.KernelIdeal.main_v11 (by decide),
        hr.1 c Cert.KernelIdeal.main_v12 (by decide), hr.1 c Cert.KernelIdeal.main_v13 (by decide),
        hr.1 c Cert.KernelIdeal.main_v14 (by decide), hr.1 c Cert.KernelIdeal.main_v15 (by decide),
        hr.1 c Cert.KernelIdeal.main_v16 (by decide), hr.1 c Cert.KernelIdeal.main_v17 (by decide), hr.2 c⟩,
    θ_run_mono (θ_run_and (Cert.ReferenceIdeal.Halo.run_at m' g') (Cert.ReferenceIdeal.Gen.unchanged m' g')) fun r hr c =>
      have rest : ∀ b : Ref Cert.ReferenceIdeal.sig .tc, b.isScoped = false → (∀ w, Pipeline.arrRef Cert.ReferenceIdeal.spec0 w ≠ b) →
          r.2.mem ((c.tc : Thread Cert.ReferenceIdeal.nD Cert.ReferenceIdeal.τ).loc b) = Cert.ReferenceIdeal.Halo.U m' c (Proc.devRef .tc b) :=
        fun b h h' => (hr.1 c).1 b (Pipeline.mem_restRefs_of b h h')
      ⟨(rest Cert.ReferenceIdeal.main_v160 (by decide) (by decide)).trans ((A c).dx g),
        (rest Cert.ReferenceIdeal.main_v159 (by decide) (by decide)).trans ((A c).dw g),
        (rest Cert.ReferenceIdeal.main_v161 (by decide) (by decide)).trans ((A c).dyo g),
        (rest Cert.ReferenceIdeal.main_v162 (by decide) (by decide)).trans ((A c).dyos g),
        (hr.1 c).2.trans ((A c).wc g),
        (rest Cert.ReferenceIdeal.main_v163 (by decide) (by decide)).trans ((A c).ws g),
        (rest Cert.ReferenceIdeal.main_v164 (by decide) (by decide)).trans ((A c).dyt g),
        (rest Cert.ReferenceIdeal.main_v165 (by decide) (by decide)).trans ((A c).dyts g),
        (rest Cert.ReferenceIdeal.main_v166 (by decide) (by decide)).trans ((A c).xc g),
        (rest Cert.ReferenceIdeal.main_v167 (by decide) (by decide)).trans ((A c).xs g), hr.2 c⟩⟩

theorem Cert.Proof.claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, results⟩
